-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![2, 256, 1024]⟩ ⟨3, ![2, 1024, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 1024]⟩ ⟨3, ![2, 1024, 1024]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x256x512 : Shape := ⟨3, ![2, 256, 512]⟩
abbrev S512x256 : Shape := ⟨2, ![512, 256]⟩
abbrev S2x256x1024 : Shape := ⟨3, ![2, 256, 1024]⟩
abbrev S256x512 : Shape := ⟨2, ![256, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  bcast_S_S512x256 : S_.BroadcastsInDim S512x256 (![] : Fin 0 → Fin S512x256.rank)
  bcast_S_S2x256x1024 : S_.BroadcastsInDim S2x256x1024 (![] : Fin 0 → Fin S2x256x1024.rank)

variable [Facts]

def fn {F : FTy → Type} [FloatOps F] (main_arg0 : FVec F S2x256x512 .bf16) (main_arg1 : FVec F S512x256 .bf16) (main_arg2 : FVec F S2x256x1024 .bf16) (main_arg3 : FVec F S2x256x1024 .bf16) (main_arg4 : FVec F S256x512 .bf16) : IVec S2x256x512 1 × IVec S512x256 1 × IVec S2x256x1024 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_v4 : FVec F S512x256 .f32 := (extf .f32 · bitsLt_bf16_f32) main_arg1
  let main_v5 : FVec F S512x256 .f32 := Host.absf main_v4
  let main_cst_0 : FVec F S_ .f32 := constant S_ .f32 0x7F800000#32
  let main_v6 : FVec F S512x256 .f32 := broadcastInDim S512x256 ![] bcast_S_S512x256 main_cst_0
  let main_v7 : IVec S512x256 1 := cmpf .olt main_v5 main_v6
  let main_v8 : FVec F S2x256x1024 .f32 := (extf .f32 · bitsLt_bf16_f32) main_arg2
  let main_v9 : FVec F S2x256x1024 .f32 := Host.absf main_v8
  let main_cst_1 : FVec F S_ .f32 := constant S_ .f32 0x7F800000#32
  let main_v10 : FVec F S2x256x1024 .f32 := broadcastInDim S2x256x1024 ![] bcast_S_S2x256x1024 main_cst_1
  let main_v11 : IVec S2x256x1024 1 := cmpf .olt main_v9 main_v10
  (main_v3, main_v7, main_v11)
-- ==== Pre_scores_finite_ReferenceIdeal.lean ====
abbrev S2x256x512 : Shape := ⟨3, ![2, 256, 512]⟩
abbrev S512x1024 : Shape := ⟨2, ![512, 1024]⟩
abbrev S2x1024x1024 : Shape := ⟨3, ![2, 1024, 1024]⟩
abbrev S1024x512 : Shape := ⟨2, ![1024, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  bcast_S_S512x1024 : S_.BroadcastsInDim S512x1024 (![] : Fin 0 → Fin S512x1024.rank)
  bcast_S_S2x1024x1024 : S_.BroadcastsInDim S2x1024x1024 (![] : Fin 0 → Fin S2x1024x1024.rank)

variable [Facts]

def fn {F : FTy → Type} [FloatOps F] (main_arg0 : FVec F S2x256x512 .bf16) (main_arg1 : FVec F S512x1024 .bf16) (main_arg2 : FVec F S2x1024x1024 .bf16) (main_arg3 : FVec F S2x1024x1024 .bf16) (main_arg4 : FVec F S1024x512 .bf16) : IVec S2x256x512 1 × IVec S512x1024 1 × IVec S2x1024x1024 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_v4 : FVec F S512x1024 .f32 := (extf .f32 · bitsLt_bf16_f32) main_arg1
  let main_v5 : FVec F S512x1024 .f32 := Host.absf main_v4
  let main_cst_0 : FVec F S_ .f32 := constant S_ .f32 0x7F800000#32
  let main_v6 : FVec F S512x1024 .f32 := broadcastInDim S512x1024 ![] bcast_S_S512x1024 main_cst_0
  let main_v7 : IVec S512x1024 1 := cmpf .olt main_v5 main_v6
  let main_v8 : FVec F S2x1024x1024 .f32 := (extf .f32 · bitsLt_bf16_f32) main_arg2
  let main_v9 : FVec F S2x1024x1024 .f32 := Host.absf main_v8
  let main_cst_1 : FVec F S_ .f32 := constant S_ .f32 0x7F800000#32
  let main_v10 : FVec F S2x1024x1024 .f32 := broadcastInDim S2x1024x1024 ![] bcast_S_S2x1024x1024 main_cst_1
  let main_v11 : IVec S2x1024x1024 1 := cmpf .olt main_v9 main_v10
  (main_v3, main_v7, main_v11)
-- ==== Kernel.lean ====
abbrev S2x256x512 : Shape := ⟨3, ![2, 256, 512]⟩
abbrev S512x256 : Shape := ⟨2, ![512, 256]⟩
abbrev S2x256x1024 : Shape := ⟨3, ![2, 256, 1024]⟩
abbrev S256x512 : Shape := ⟨2, ![256, 512]⟩
abbrev S4x2x2x256x256 : Shape := ⟨5, ![4, 2, 2, 256, 256]⟩
abbrev S4x2x256x512 : Shape := ⟨4, ![4, 2, 256, 512]⟩
abbrev S3 : Shape := ⟨1, ![3]⟩
abbrev S_ : Shape := ⟨0, ![]⟩
abbrev S2x256x256 : Shape := ⟨3, ![2, 256, 256]⟩
abbrev S1x1x2x256x256 : Shape := ⟨5, ![1, 1, 2, 256, 256]⟩
abbrev S1 : Shape := ⟨1, ![1]⟩
abbrev S1x2x2x256x256 : Shape := ⟨5, ![1, 2, 2, 256, 256]⟩
abbrev S2x2x256x256 : Shape := ⟨4, ![2, 2, 256, 256]⟩
abbrev S1x256x512 : Shape := ⟨3, ![1, 256, 512]⟩
abbrev S256x256 : Shape := ⟨2, ![256, 256]⟩
abbrev S1x1x1x256x256 : Shape := ⟨5, ![1, 1, 1, 256, 256]⟩
abbrev S256x64 : Shape := ⟨2, ![256, 64]⟩
abbrev S256 : Shape := ⟨1, ![256]⟩
abbrev S256x1 : Shape := ⟨2, ![256, 1]⟩
abbrev S1x2x256x512 : Shape := ⟨4, ![1, 2, 256, 512]⟩

abbrev nBuf : Space → Nat
  | .hbm => 6
  | .vmem => 9
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x1024, .bf16⟩
  | .hbm, ⟨3, _⟩ => ⟨S2x256x1024, .bf16⟩
  | .hbm, ⟨4, _⟩ => ⟨S256x512, .bf16⟩
  | .hbm, ⟨5, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x1024, .bf16⟩
  | .local _ .vmem, ⟨3, _⟩ => ⟨S2x256x1024, .bf16⟩
  | .local _ .vmem, ⟨4, _⟩ => ⟨S256x512, .bf16⟩
  | .local _ .vmem, ⟨5, _⟩ => ⟨S2x256x512, .f32⟩
  | .local _ .vmem, ⟨6, _⟩ => ⟨S4x2x2x256x256, .bf16⟩
  | .local _ .vmem, ⟨7, _⟩ => ⟨S4x2x2x256x256, .bf16⟩
  | .local _ .vmem, ⟨8, _⟩ => ⟨S4x2x256x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_85 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v83 : BitVec 32 := Scalar.addi v2 c1_i32_85
  let c4_i32_86 : BitVec 32 := 4#32
  let c0_i32_87 : BitVec 32 := 0#32
  let v84 : BitVec 1 := Scalar.cmpi .eq c4_i32_86 c0_i32_87
  let c1_i32_88 : BitVec 32 := 1#32
  let v85 : BitVec 32 := Scalar.select v84 c1_i32_88 c4_i32_86
  let v86 : BitVec 32 := Scalar.remsi v83 v85
  let c0_i32_90 : BitVec 32 := 0#32
  let v88 : BitVec 1 := Scalar.cmpi .slt v86 c0_i32_90
  let c0_i32_91 : BitVec 32 := 0#32
  let v89 : BitVec 1 := Scalar.cmpi .slt v85 c0_i32_91
  let v90 : BitVec 1 := Scalar.xori v88 v89
  let c0_i32_89 : BitVec 32 := 0#32
  let v87 : BitVec 1 := Scalar.cmpi .ne v86 c0_i32_89
  let v91 : BitVec 1 := Scalar.andi v90 v87
  let v92 : BitVec 32 := Scalar.addi v86 v85
  let v93 : BitVec 32 := Scalar.select v91 v92 v86
  let c0_i32_101 : BitVec 32 := 0#32
  let c0_i32_102 : BitVec 32 := 0#32
  let c0_i32_103 : BitVec 32 := 0#32
  let c0_i32_104 : BitVec 32 := 0#32
  ![v93.toNat, 0, 0, 0, 0]
def k0_dev4 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_85 : BitVec 32 := 1#32
  let v83 : BitVec 32 := Scalar.addi v2 c1_i32_85
  let c4_i32_86 : BitVec 32 := 4#32
  let c0_i32_87 : BitVec 32 := 0#32
  let v84 : BitVec 1 := Scalar.cmpi .eq c4_i32_86 c0_i32_87
  let c1_i32_88 : BitVec 32 := 1#32
  let v85 : BitVec 32 := Scalar.select v84 c1_i32_88 c4_i32_86
  let v86 : BitVec 32 := Scalar.remsi v83 v85
  let c0_i32_90 : BitVec 32 := 0#32
  let v88 : BitVec 1 := Scalar.cmpi .slt v86 c0_i32_90
  let c0_i32_91 : BitVec 32 := 0#32
  let v89 : BitVec 1 := Scalar.cmpi .slt v85 c0_i32_91
  let v90 : BitVec 1 := Scalar.xori v88 v89
  let c0_i32_89 : BitVec 32 := 0#32
  let v87 : BitVec 1 := Scalar.cmpi .ne v86 c0_i32_89
  let v91 : BitVec 1 := Scalar.andi v90 v87
  let v92 : BitVec 32 := Scalar.addi v86 v85
  let v93 : BitVec 32 := Scalar.select v91 v92 v86
  let c1_i32_95 : BitVec 32 := 1#32
  let v94 : BitVec 32 := Scalar.muli v93 c1_i32_95
  let v95 : BitVec 32 := Scalar.addi c0_i32_96 v94
  v95.toNat
def k0_dev5 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_105 : BitVec 32 := 2#32
  let v104 : BitVec 32 := Scalar.addi v2 c2_i32_105
  let c4_i32_106 : BitVec 32 := 4#32
  let c0_i32_107 : BitVec 32 := 0#32
  let v105 : BitVec 1 := Scalar.cmpi .eq c4_i32_106 c0_i32_107
  let c1_i32_108 : BitVec 32 := 1#32
  let v106 : BitVec 32 := Scalar.select v105 c1_i32_108 c4_i32_106
  let v107 : BitVec 32 := Scalar.remsi v104 v106
  let c0_i32_110 : BitVec 32 := 0#32
  let v109 : BitVec 1 := Scalar.cmpi .slt v107 c0_i32_110
  let c0_i32_111 : BitVec 32 := 0#32
  let v110 : BitVec 1 := Scalar.cmpi .slt v106 c0_i32_111
  let v111 : BitVec 1 := Scalar.xori v109 v110
  let c0_i32_109 : BitVec 32 := 0#32
  let v108 : BitVec 1 := Scalar.cmpi .ne v107 c0_i32_109
  let v112 : BitVec 1 := Scalar.andi v111 v108
  let v113 : BitVec 32 := Scalar.addi v107 v106
  let v114 : BitVec 32 := Scalar.select v112 v113 v107
  let c1_i32_115 : BitVec 32 := 1#32
  let v115 : BitVec 32 := Scalar.muli v114 c1_i32_115
  let v116 : BitVec 32 := Scalar.addi c0_i32_116 v115
  v116.toNat
def k0_dev6 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_125 : BitVec 32 := 3#32
  let v125 : BitVec 32 := Scalar.addi v2 c3_i32_125
  let c4_i32_126 : BitVec 32 := 4#32
  let c0_i32_127 : BitVec 32 := 0#32
  let v126 : BitVec 1 := Scalar.cmpi .eq c4_i32_126 c0_i32_127
  let c1_i32_128 : BitVec 32 := 1#32
  let v127 : BitVec 32 := Scalar.select v126 c1_i32_128 c4_i32_126
  let v128 : BitVec 32 := Scalar.remsi v125 v127
  let c0_i32_130 : BitVec 32 := 0#32
  let v130 : BitVec 1 := Scalar.cmpi .slt v128 c0_i32_130
  let c0_i32_131 : BitVec 32 := 0#32
  let v131 : BitVec 1 := Scalar.cmpi .slt v127 c0_i32_131
  let v132 : BitVec 1 := Scalar.xori v130 v131
  let c0_i32_129 : BitVec 32 := 0#32
  let v129 : BitVec 1 := Scalar.cmpi .ne v128 c0_i32_129
  let v133 : BitVec 1 := Scalar.andi v132 v129
  let v134 : BitVec 32 := Scalar.addi v128 v127
  let v135 : BitVec 32 := Scalar.select v133 v134 v128
  let c1_i32_135 : BitVec 32 := 1#32
  let v136 : BitVec 32 := Scalar.muli v135 c1_i32_135
  let v137 : BitVec 32 := Scalar.addi c0_i32_136 v136
  v137.toNat
def k0_off2 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_150 : BitVec 32 := 0#32
  let c0_i32_151 : BitVec 32 := 0#32
  let c0_i32_152 : BitVec 32 := 0#32
  let c0_i32_153 : BitVec 32 := 0#32
  ![v2.toNat, 0, 0, 0, 0]
def k0_dev7 (d0 : Dev nD) : Nat :=
  let c0_i32_473 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_461 : BitVec 32 := 1#32
  let v732 : BitVec 32 := Scalar.addi v2 c1_i32_461
  let c4_i32_462 : BitVec 32 := 4#32
  let c0_i32_463 : BitVec 32 := 0#32
  let v733 : BitVec 1 := Scalar.cmpi .eq c4_i32_462 c0_i32_463
  let c1_i32_464 : BitVec 32 := 1#32
  let v734 : BitVec 32 := Scalar.select v733 c1_i32_464 c4_i32_462
  let v735 : BitVec 32 := Scalar.remsi v732 v734
  let c0_i32_466 : BitVec 32 := 0#32
  let v737 : BitVec 1 := Scalar.cmpi .slt v735 c0_i32_466
  let c0_i32_467 : BitVec 32 := 0#32
  let v738 : BitVec 1 := Scalar.cmpi .slt v734 c0_i32_467
  let v739 : BitVec 1 := Scalar.xori v737 v738
  let c0_i32_465 : BitVec 32 := 0#32
  let v736 : BitVec 1 := Scalar.cmpi .ne v735 c0_i32_465
  let v740 : BitVec 1 := Scalar.andi v739 v736
  let v741 : BitVec 32 := Scalar.addi v735 v734
  let v742 : BitVec 32 := Scalar.select v740 v741 v735
  let c1_i32_472 : BitVec 32 := 1#32
  let v743 : BitVec 32 := Scalar.muli v742 c1_i32_472
  let v744 : BitVec 32 := Scalar.addi c0_i32_473 v743
  v744.toNat
def k0_dev8 (d0 : Dev nD) : Nat :=
  let c0_i32_492 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_480 : BitVec 32 := 2#32
  let v753 : BitVec 32 := Scalar.addi v2 c2_i32_480
  let c4_i32_481 : BitVec 32 := 4#32
  let c0_i32_482 : BitVec 32 := 0#32
  let v754 : BitVec 1 := Scalar.cmpi .eq c4_i32_481 c0_i32_482
  let c1_i32_483 : BitVec 32 := 1#32
  let v755 : BitVec 32 := Scalar.select v754 c1_i32_483 c4_i32_481
  let v756 : BitVec 32 := Scalar.remsi v753 v755
  let c0_i32_485 : BitVec 32 := 0#32
  let v758 : BitVec 1 := Scalar.cmpi .slt v756 c0_i32_485
  let c0_i32_486 : BitVec 32 := 0#32
  let v759 : BitVec 1 := Scalar.cmpi .slt v755 c0_i32_486
  let v760 : BitVec 1 := Scalar.xori v758 v759
  let c0_i32_484 : BitVec 32 := 0#32
  let v757 : BitVec 1 := Scalar.cmpi .ne v756 c0_i32_484
  let v761 : BitVec 1 := Scalar.andi v760 v757
  let v762 : BitVec 32 := Scalar.addi v756 v755
  let v763 : BitVec 32 := Scalar.select v761 v762 v756
  let c1_i32_491 : BitVec 32 := 1#32
  let v764 : BitVec 32 := Scalar.muli v763 c1_i32_491
  let v765 : BitVec 32 := Scalar.addi c0_i32_492 v764
  v765.toNat
def k0_dev9 (d0 : Dev nD) : Nat :=
  let c0_i32_511 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_499 : BitVec 32 := 3#32
  let v774 : BitVec 32 := Scalar.addi v2 c3_i32_499
  let c4_i32_500 : BitVec 32 := 4#32
  let c0_i32_501 : BitVec 32 := 0#32
  let v775 : BitVec 1 := Scalar.cmpi .eq c4_i32_500 c0_i32_501
  let c1_i32_502 : BitVec 32 := 1#32
  let v776 : BitVec 32 := Scalar.select v775 c1_i32_502 c4_i32_500
  let v777 : BitVec 32 := Scalar.remsi v774 v776
  let c0_i32_504 : BitVec 32 := 0#32
  let v779 : BitVec 1 := Scalar.cmpi .slt v777 c0_i32_504
  let c0_i32_505 : BitVec 32 := 0#32
  let v780 : BitVec 1 := Scalar.cmpi .slt v776 c0_i32_505
  let v781 : BitVec 1 := Scalar.xori v779 v780
  let c0_i32_503 : BitVec 32 := 0#32
  let v778 : BitVec 1 := Scalar.cmpi .ne v777 c0_i32_503
  let v782 : BitVec 1 := Scalar.andi v781 v778
  let v783 : BitVec 32 := Scalar.addi v777 v776
  let v784 : BitVec 32 := Scalar.select v782 v783 v777
  let c1_i32_510 : BitVec 32 := 1#32
  let v785 : BitVec 32 := Scalar.muli v784 c1_i32_510
  let v786 : BitVec 32 := Scalar.addi c0_i32_511 v785
  v786.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x1024 : Shape := ⟨2, ![512, 1024]⟩
abbrev S2x1024x1024 : Shape := ⟨3, ![2, 1024, 1024]⟩
abbrev S1024x512 : Shape := ⟨2, ![1024, 512]⟩
abbrev S2x1024x16x64 : Shape := ⟨4, ![2, 1024, 16, 64]⟩
abbrev S2x256x1024 : Shape := ⟨3, ![2, 256, 1024]⟩
abbrev S2x256x16x64 : Shape := ⟨4, ![2, 256, 16, 64]⟩
abbrev S256 : Shape := ⟨1, ![256]⟩
abbrev S256x1 : Shape := ⟨2, ![256, 1]⟩
abbrev S1024 : Shape := ⟨1, ![1024]⟩
abbrev S1x1024 : Shape := ⟨2, ![1, 1024]⟩
abbrev S256x1024 : Shape := ⟨2, ![256, 1024]⟩
abbrev S_ : Shape := ⟨0, ![]⟩
abbrev S2x16x256x1024 : Shape := ⟨4, ![2, 16, 256, 1024]⟩
abbrev S1x1x256x1024 : Shape := ⟨4, ![1, 1, 256, 1024]⟩
abbrev S2x16x256 : Shape := ⟨3, ![2, 16, 256]⟩
abbrev S2x16x256x1 : Shape := ⟨4, ![2, 16, 256, 1]⟩
abbrev S1x1x256x1 : Shape := ⟨4, ![1, 1, 256, 1]⟩
abbrev S2x16x64x256 : Shape := ⟨4, ![2, 16, 64, 256]⟩

abbrev nBuf : Space → Nat
  | .hbm => 74
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x1024, .bf16⟩
  | .hbm, ⟨2, _⟩ => ⟨S2x1024x1024, .bf16⟩
  | .hbm, ⟨3, _⟩ => ⟨S2x1024x1024, .bf16⟩
  | .hbm, ⟨4, _⟩ => ⟨S1024x512, .bf16⟩
  | .hbm, ⟨5, _⟩ => ⟨S2x1024x16x64, .bf16⟩
  | .hbm, ⟨6, _⟩ => ⟨S2x1024x16x64, .bf16⟩
  | .hbm, ⟨7, _⟩ => ⟨S2x256x1024, .f32⟩
  | .hbm, ⟨8, _⟩ => ⟨S2x256x1024, .bf16⟩
  | .hbm, ⟨9, _⟩ => ⟨S2x256x16x64, .bf16⟩
  | .hbm, ⟨10, _⟩ => ⟨S256, .i32⟩
  | .hbm, ⟨11, _⟩ => ⟨S256x1, .i32⟩
  | .hbm, ⟨12, _⟩ => ⟨S1024, .i32⟩
  | .hbm, ⟨13, _⟩ => ⟨S1x1024, .i32⟩
  | .hbm, ⟨14, _⟩ => ⟨S256x1024, .i32⟩
  | .hbm, ⟨15, _⟩ => ⟨S256x1024, .i32⟩
  | .hbm, ⟨16, _⟩ => ⟨S256x1024, .i32⟩
  | .hbm, ⟨17, _⟩ => ⟨S256x1024, .i32⟩
  | .hbm, ⟨18, _⟩ => ⟨S_, .i32⟩
  | .hbm, ⟨19, _⟩ => ⟨S256x1024, .i32⟩
  | .hbm, ⟨20, _⟩ => ⟨S256x1024, .i1⟩
  | .hbm, ⟨21, _⟩ => ⟨S_, .i32⟩
  | .hbm, ⟨22, _⟩ => ⟨S1x1024, .i32⟩
  | .hbm, ⟨23, _⟩ => ⟨S1x1024, .i1⟩
  | .hbm, ⟨24, _⟩ => ⟨S_, .i32⟩
  | .hbm, ⟨25, _⟩ => ⟨S256x1, .i32⟩
  | .hbm, ⟨26, _⟩ => ⟨S256x1, .i1⟩
  | .hbm, ⟨27, _⟩ => ⟨S256x1024, .i1⟩
  | .hbm, ⟨28, _⟩ => ⟨S256x1024, .i1⟩
  | .hbm, ⟨29, _⟩ => ⟨S256x1024, .i1⟩
  | .hbm, ⟨30, _⟩ => ⟨S256x1024, .i1⟩
  | .hbm, ⟨31, _⟩ => ⟨S2x16x256x1024, .f32⟩
  | .hbm, ⟨32, _⟩ => ⟨S2x16x256x1024, .bf16⟩
  | .hbm, ⟨33, _⟩ => ⟨S2x16x256x1024, .f32⟩
  | .hbm, ⟨34, _⟩ => ⟨S_, .f32⟩
  | .hbm, ⟨35, _⟩ => ⟨S2x16x256x1024, .f32⟩
  | .hbm, ⟨36, _⟩ => ⟨S2x16x256x1024, .f32⟩
  | .hbm, ⟨37, _⟩ => ⟨S1x1x256x1024, .i1⟩
  | .hbm, ⟨38, _⟩ => ⟨S_, .f32⟩
  | .hbm, ⟨39, _⟩ => ⟨S_, .f32⟩
  | .hbm, ⟨40, _⟩ => ⟨S2x16x256x1024, .i1⟩
  | .hbm, ⟨41, _⟩ => ⟨S2x16x256x1024, .f32⟩
  | .hbm, ⟨42, _⟩ => ⟨S2x16x256x1024, .f32⟩
  | .hbm, ⟨43, _⟩ => ⟨S_, .f32⟩
  | .hbm, ⟨44, _⟩ => ⟨S2x16x256, .f32⟩
  | .hbm, ⟨45, _⟩ => ⟨S2x16x256x1, .f32⟩
  | .hbm, ⟨46, _⟩ => ⟨S2x16x256x1024, .f32⟩
  | .hbm, ⟨47, _⟩ => ⟨S2x16x256x1024, .f32⟩
  | .hbm, ⟨48, _⟩ => ⟨S2x16x256x1024, .f32⟩
  | .hbm, ⟨49, _⟩ => ⟨S_, .i1⟩
  | .hbm, ⟨50, _⟩ => ⟨S256, .i1⟩
  | .hbm, ⟨51, _⟩ => ⟨S1x1x256x1, .i1⟩
  | .hbm, ⟨52, _⟩ => ⟨S_, .f32⟩
  | .hbm, ⟨53, _⟩ => ⟨S2x16x256, .f32⟩
  | .hbm, ⟨54, _⟩ => ⟨S2x16x256x1, .f32⟩
  | .hbm, ⟨55, _⟩ => ⟨S_, .f32⟩
  | .hbm, ⟨56, _⟩ => ⟨S_, .f32⟩
  | .hbm, ⟨57, _⟩ => ⟨S2x16x256x1, .i1⟩
  | .hbm, ⟨58, _⟩ => ⟨S2x16x256x1, .f32⟩
  | .hbm, ⟨59, _⟩ => ⟨S2x16x256x1, .f32⟩
  | .hbm, ⟨60, _⟩ => ⟨S2x16x256x1024, .f32⟩
  | .hbm, ⟨61, _⟩ => ⟨S2x16x256x1024, .f32⟩
  | .hbm, ⟨62, _⟩ => ⟨S1x1x256x1, .i1⟩
  | .hbm, ⟨63, _⟩ => ⟨S_, .f32⟩
  | .hbm, ⟨64, _⟩ => ⟨S_, .f32⟩
  | .hbm, ⟨65, _⟩ => ⟨S2x16x256x1024, .i1⟩
  | .hbm, ⟨66, _⟩ => ⟨S2x16x256x1024, .f32⟩
  | .hbm, ⟨67, _⟩ => ⟨S2x16x256x1024, .f32⟩
  | .hbm, ⟨68, _⟩ => ⟨S2x1024x16x64, .f32⟩
  | .hbm, ⟨69, _⟩ => ⟨S2x16x64x256, .f32⟩
  | .hbm, ⟨70, _⟩ => ⟨S2x256x16x64, .f32⟩
  | .hbm, ⟨71, _⟩ => ⟨S2x256x1024, .f32⟩
  | .hbm, ⟨72, _⟩ => ⟨S1024x512, .f32⟩
  | .hbm, ⟨73, _⟩ => ⟨S2x256x512, .f32⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]
-- ==== Proof.Values.lean ====
/-
# The contents of the kernel's buffers, over any float format

What device `c` stages, what each slot of the gathered keys and values holds once every exchange has landed, each
device's partial product and the slots of partial products, all as functions of the launch memory. The float operations are
those of the kernel, written head by head and slot by slot.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic

@[expose] public section

noncomputable section

namespace Cert.KernelProof

open Cert.KernelIdeal Cert.KernelIdeal.Gen
open Idealize.ShloMosaic
open Idealize.ShloMosaic.TcCoe
open Idealize.SL Idealize.SL.Sem

variable {F : FTy → Type} [FloatOps F]

/-! ## The devices -/

set_option backward.proofsInPublic true in
/-- The device `r + 1` places after `c`. -/
def up (r : Fin 3) (c : Dev nD) : Dev nD := ⟨(c.val + r.val + 1) % 4, Nat.mod_lt _ (by decide)⟩

theorem up_rev (r : Fin 3) (c : Dev nD) : up r.rev (up r c) = c := by revert r c; decide
theorem up_rev' (r : Fin 3) (c : Dev nD) : up r (up r.rev c) = c := by revert r c; decide
theorem up2_up0 (c : Dev nD) : up 2 (up 0 c) = c := up_rev 0 c
theorem up1_up1 (c : Dev nD) : up 1 (up 1 c) = c := up_rev 1 c
theorem up0_up2 (c : Dev nD) : up 0 (up 2 c) = c := up_rev 2 c

/-- Going `r + 1` places on is a rearrangement of the devices. -/
def upEquiv (r : Fin 3) : Dev nD ≃ Dev nD := ⟨up r, up r.rev, up_rev r, fun c => up_rev' r c⟩

set_option backward.proofsInPublic true in
/-- The device whose contribution lands in slot `d` of device `c`: `d` places before `c`. -/
def origin (c : Dev nD) (d : Fin 4) : Dev nD := ⟨(c.val + 4 - d.val) % 4, Nat.mod_lt _ (by decide)⟩

theorem origin_zero (c : Dev nD) : origin c 0 = c := by revert c; decide
theorem origin_up (r : Fin 3) (c : Dev nD) : origin (up r c) r.succ = c := by revert r c; decide

/-! ## The staged inputs -/

variable (m : (ℓ : Loc nD τ sig) → Buf (Elt F) ℓ)

def xA (c : Dev nD) : (cc0_stg0_0 : Ref sig .tc).ty.Contents (Elt F) :=
  (win0_0.blk (0 : Fin 1)).view.read (Elt F) (m ((c : Thread nD τ).loc main_arg0))
def wqA (c : Dev nD) : (cc0_stg1_0 : Ref sig .tc).ty.Contents (Elt F) :=
  (win0_1.blk (0 : Fin 1)).view.read (Elt F) (m ((c : Thread nD τ).loc main_arg1))
def kA (c : Dev nD) : (cc0_stg2_0 : Ref sig .tc).ty.Contents (Elt F) :=
  (win0_2.blk (0 : Fin 1)).view.read (Elt F) (m ((c : Thread nD τ).loc main_arg2))
def vA (c : Dev nD) : (cc0_stg3_0 : Ref sig .tc).ty.Contents (Elt F) :=
  (win0_3.blk (0 : Fin 1)).view.read (Elt F) (m ((c : Thread nD τ).loc main_arg3))
def woA (c : Dev nD) : (cc0_stg4_0 : Ref sig .tc).ty.Contents (Elt F) :=
  (win0_4.blk (0 : Fin 1)).view.read (Elt F) (m ((c : Thread nD τ).loc main_arg4))

/-! ## The exchanged keys and values -/

/-- The entry of a staged key or value block that entry `i` of the staging buffer holds: column `n` of the 256 bound for
    device `j` is column `256 j + n`. -/
def srcIdx (i : S4x2x2x256x256.Idx) : S2x256x1024.Idx
  | 0 => i 2
  | 1 => i 3
  | 2 => ⟨256 * (i 0).val + (i 4).val, by
      have h0 : (i 0).val < 4 := (i 0).isLt
      have h4 : (i 4).val < 256 := (i 4).isLt
      show 256 * (i 0).val + (i 4).val < 1024
      omega⟩

/-- Entry `(j, s, b, r, n)` of what device `c` stages: its key (`s = 0`) or value (`s = 1`) row `r` of batch `b`, at
    column `n` of the 256 columns bound for device `j`. -/
def stgV (c : Dev nD) : (cc0_scratch0 : Ref sig .tc).ty.Contents (Elt F) := fun (i : S4x2x2x256x256.Idx) =>
  if (i 1).val = 0 then kA m c (srcIdx i) else vA m c (srcIdx i)

/-- Entry `i` with its slot replaced by `d`. -/
def atSlot (d : Fin 4) (i : S4x2x2x256x256.Idx) : S4x2x2x256x256.Idx
  | 0 => d
  | 1 => i 1
  | 2 => i 2
  | 3 => i 3
  | 4 => i 4

/-- Slot `d` of the gathered keys and values on device `c`: what the device `d` places before it staged for `c`. -/
def kvgV (c : Dev nD) : (cc0_scratch1 : Ref sig .tc).ty.Contents (Elt F) := fun (i : S4x2x2x256x256.Idx) =>
  stgV m (origin c (i 0)) (atSlot c i)

/-! ## The attention of one device's heads -/

theorem inb_slab (d : Fin 4) (s b : Fin 2) : ∀ a, (![d.val, s.val, b.val, 0, 0] : Fin 5 → Nat) a + S1x1x1x256x256.size a ≤ S4x2x2x256x256.size a := by
  revert d s b; decide

/-- The gathered keys (`s = 0`) or values (`s = 1`) of slot `d`, batch `b`. -/
def slab (c : Dev nD) (d : Fin 4) (s b : Fin 2) : FVec F S256x256 .bf16 :=
  shapeCast S256x256 ((Memref.whole cc0_scratch1).view.readAt (Elt F)
    (Rect.unit (s := S4x2x2x256x256) ![d.val, s.val, b.val, 0, 0] S1x1x1x256x256.size (inb_slab d s b)).toLoadRect (kvgV m c))
    shapeCasts_S1x1x1x256x256_S256x256

theorem slices_batch (b : Fin 2) : S2x256x512.Slices ![b.val, 0, 0] S1x256x512 := by revert b; decide
theorem slices_head (h : Fin 4) : S256x256.Slices ![0, 64 * h.val] S256x64 := by revert h; decide

/-- The scaled queries of batch `b`. -/
def qv (x : FVec F S2x256x512 .bf16) (wq : FVec F S512x256 .bf16) (b : Fin 2) : FVec F S256x256 .bf16 :=
  truncf .bf16 (mulf (matmul dot_S256x512_S512x256_S256x256_1_0_0_1_n_n none
      (shapeCast S256x512 (extractStridedSlice S1x256x512 ![b.val, 0, 0] x (slices_batch b)) shapeCasts_S1x256x512_S256x512) wq
      (constant S256x256 .f32 0x00000000#32)) (broadcast S256x256 (Scalar.ofBits .f32 0x3E000000#32 : F .f32))) bitsLt_bf16_f32

/-- The 64 columns of head `h`. -/
def head (y : FVec F S256x256 .bf16) (h : Fin 4) : FVec F S256x64 .bf16 := extractStridedSlice S256x64 ![0, 64 * h.val] y (slices_head h)

/-- The mask over the keys of the device numbered `o`: 1 where query row and key row are within 128, or either is among
    the first 32. -/
def maskv (o : BitVec 32) : FVec F S256x256 .f32 :=
  sitofp .f32 (extui 32 (ori (ori
    (cmpi .sle (absi (subi (iota .tc S256x256 32 [0] iota_S256x256_d0_w32)
      (addi (iota .tc S256x256 32 [1] iota_S256x256_d1_w32) (broadcast S256x256 (Scalar.muli o 256#32))))) (broadcast S256x256 128#32))
    (cmpi .slt (addi (iota .tc S256x256 32 [1] iota_S256x256_d1_w32) (broadcast S256x256 (Scalar.muli o 256#32))) (broadcast S256x256 32#32)))
    (cmpi .slt (iota .tc S256x256 32 [0] iota_S256x256_d0_w32) (broadcast S256x256 32#32))) natLt_1_32)

/-- The masked exponentials of one head's scores against one slot's keys. -/
def wts (q k : FVec F S256x256 .bf16) (mk : FVec F S256x256 .f32) (h : Fin 4) : FVec F S256x256 .f32 :=
  mulf (exp (matmul dot_S256x64_S256x64_S256x256_1_1_0_0_n_n none (head q h) (head k h) (constant S256x256 .f32 0x00000000#32))) mk

/-- Their row sums, and their product with the slot's values. -/
def den1 (w : FVec F S256x256 .f32) : FVec F S256x1 .f32 :=
  shapeCast S256x1 (multiReduction .add [1] S256 w 0x00000000#32 reduces_S256x256_S256 (.inl rfl) rfl) shapeCasts_S256_S256x1
def ctx1 (w : FVec F S256x256 .f32) (v : FVec F S256x256 .bf16) (h : Fin 4) : FVec F S256x64 .f32 :=
  matmul dot_S256x256_S256x64_S256x64_1_0_0_1_n_n none (truncf .bf16 w bitsLt_bf16_f32) (head v h) (constant S256x64 .f32 0x00000000#32)

/-- One head's normalised result from the four slots, taken in the order 0, 1, 3, 2. -/
def headOut (q : FVec F S256x256 .bf16) (k v : Fin 4 → FVec F S256x256 .bf16) (mk : Fin 4 → FVec F S256x256 .f32) (h : Fin 4) : FVec F S256x64 .f32 :=
  divf (addf (addf (addf (ctx1 (wts q (k 0) (mk 0) h) (v 0) h) (ctx1 (wts q (k 1) (mk 1) h) (v 1) h)) (ctx1 (wts q (k 3) (mk 3) h) (v 3) h))
      (ctx1 (wts q (k 2) (mk 2) h) (v 2) h))
    (broadcastTo S256x64 (addf (addf (addf (den1 (wts q (k 0) (mk 0) h)) (den1 (wts q (k 1) (mk 1) h))) (den1 (wts q (k 3) (mk 3) h)))
      (den1 (wts q (k 2) (mk 2) h))) broadcasts_S256x1_S256x64)

/-- The heads side by side, times the output weights. -/
def batchOut (q : FVec F S256x256 .bf16) (k v : Fin 4 → FVec F S256x256 .bf16) (mk : Fin 4 → FVec F S256x256 .f32) (wo : FVec F S256x512 .bf16) :
    FVec F S256x512 .f32 :=
  matmul dot_S256x256_S256x512_S256x512_1_0_0_1_n_n none
    (truncf .bf16 (concatenate S256x256 1 [⟨S256x64, headOut q k v mk 0⟩, ⟨S256x64, headOut q k v mk 1⟩, ⟨S256x64, headOut q k v mk 2⟩,
      ⟨S256x64, headOut q k v mk 3⟩] concatenates_S256x64_S256x64_S256x64_S256x64_S256x256_d1) bitsLt_bf16_f32) wo
    (constant S256x512 .f32 0x00000000#32)

/-- Both batches, as the kernel stores them. -/
def partOf (q : Fin 2 → FVec F S256x256 .bf16) (k v : Fin 4 → Fin 2 → FVec F S256x256 .bf16) (mk : Fin 4 → FVec F S256x256 .f32)
    (wo : FVec F S256x512 .bf16) : FVec F S2x256x512 .bf16 :=
  truncf .bf16 (concatenate S2x256x512 0
    [⟨S1x256x512, shapeCast S1x256x512 (batchOut (q 0) (fun d => k d 0) (fun d => v d 0) mk wo) shapeCasts_S256x512_S1x256x512⟩,
     ⟨S1x256x512, shapeCast S1x256x512 (batchOut (q 1) (fun d => k d 1) (fun d => v d 1) mk wo) shapeCasts_S256x512_S1x256x512⟩]
    concatenates_S1x256x512_S1x256x512_S2x256x512_d0) bitsLt_bf16_f32

/-- Device `c`'s partial product. -/
def partV (c : Dev nD) : FVec F S2x256x512 .bf16 :=
  partOf (qv (xA m c) (wqA m c)) (fun d b => slab m c d 0 b) (fun d b => slab m c d 1 b) (fun d => maskv (BitVec.ofNat 32 (origin c d).val)) (woA m c)

/-- An entry of the partial products without its slot. -/
def dropSlot (i : S4x2x256x512.Idx) : S2x256x512.Idx
  | 0 => i 1
  | 1 => i 2
  | 2 => i 3

/-- Slot `d` of the partial products on device `c`: the partial product of the device `d` places before it. -/
def ogV (c : Dev nD) : (cc0_scratch2 : Ref sig .tc).ty.Contents (Elt F) := fun (i : S4x2x256x512.Idx) =>
  partV m (origin c (i 0)) (dropSlot i)

/-- The result on device `c`: the four slots summed. -/
def outV (c : Dev nD) : (cc0_stg5_0 : Ref sig .tc).ty.Contents (Elt F) :=
  addf (addf (addf (extf .f32 (partV m (origin c 0)) bitsLt_bf16_f32) (extf .f32 (partV m (origin c 1)) bitsLt_bf16_f32))
    (extf .f32 (partV m (origin c 2)) bitsLt_bf16_f32)) (extf .f32 (partV m (origin c 3)) bitsLt_bf16_f32)

end Cert.KernelProof
-- ==== Proof.Protocol.lean ====
/-
# The exchange, as a schedule of duties

Every device has one barrier cell and, for each of the three peers, a departure and an arrival cell of the exchange of keys
and values and of the exchange of partial products. Each cell has one round. A barrier cell's round has three duties, one
for each peer; a transfer's cell has one.

A device that signals a peer hands it the two slots, of its gathered keys and values and of its partial products, that this
peer will fill. An arrival hands the filled slot to its owner; a departure hands the block that was read back to its reader.
-/
module

public import proofs.«01_k».proof.Proof.Values
public import Idealize.ShloMosaic.Lib.Pipeline.Launch
public import Idealize.ShloMosaic.Lib.Pipeline.Kit
public import Idealize.ShloMosaic.Lib.Tactic
public import Idealize.ShloMosaic.Lib.Transfers

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ)

/-! ## The semaphores and their cells -/

abbrev barS : Sem sig := (SemArray.scalar (sig.barrier 0 rfl) : Sems sig S_).sem
set_option backward.proofsInPublic true in
abbrev kvsS (r : Fin 3) : DmaSem sig := (⟨6 + r.val, by have := r.isLt; show 6 + r.val < 19; omega⟩ : Fin 19)
set_option backward.proofsInPublic true in
abbrev kvrS (r : Fin 3) : DmaSem sig := (⟨9 + r.val, by have := r.isLt; show 9 + r.val < 19; omega⟩ : Fin 19)
set_option backward.proofsInPublic true in
abbrev osS (r : Fin 3) : DmaSem sig := (⟨12 + r.val, by have := r.isLt; show 12 + r.val < 19; omega⟩ : Fin 19)
set_option backward.proofsInPublic true in
abbrev orS (r : Fin 3) : DmaSem sig := (⟨15 + r.val, by have := r.isLt; show 15 + r.val < 19; omega⟩ : Fin 19)
abbrev locS : DmaSem sig := (18 : Fin 19)

abbrev barCell (c : Dev nD) : GSem nD τ sig := ((c : Thread nD τ), .reg barS)
abbrev kvsCell (r : Fin 3) (c : Dev nD) : GSem nD τ sig := ((c : Thread nD τ), .dma (kvsS r))
abbrev kvrCell (r : Fin 3) (c : Dev nD) : GSem nD τ sig := ((c : Thread nD τ), .dma (kvrS r))
abbrev osCell (r : Fin 3) (c : Dev nD) : GSem nD τ sig := ((c : Thread nD τ), .dma (osS r))
abbrev orCell (r : Fin 3) (c : Dev nD) : GSem nD τ sig := ((c : Thread nD τ), .dma (orS r))

/-- What a semaphore is for. -/
inductive Role where
  | bar | kvs (r : Fin 3) | kvr (r : Fin 3) | os (r : Fin 3) | orr (r : Fin 3) | other
  deriving DecidableEq

/-- The role of the DMA semaphore numbered `n`. -/
def roleOf : ℕ → Role
  | 6 => .kvs 0 | 7 => .kvs 1 | 8 => .kvs 2 | 9 => .kvr 0 | 10 => .kvr 1 | 11 => .kvr 2
  | 12 => .os 0 | 13 => .os 1 | 14 => .os 2 | 15 => .orr 0 | 16 => .orr 1 | 17 => .orr 2
  | _ => .other

def role : SemLoc sig → Role
  | .reg _ => .bar
  | .dma q => roleOf (q : Fin 19).val

theorem role_kvs (r : Fin 3) : role (.dma (kvsS r)) = .kvs r := by revert r; decide
theorem role_kvr (r : Fin 3) : role (.dma (kvrS r)) = .kvr r := by revert r; decide
theorem role_os (r : Fin 3) : role (.dma (osS r)) = .os r := by revert r; decide
theorem role_or (r : Fin 3) : role (.dma (orS r)) = .orr r := by revert r; decide

/-! ## The slots -/

theorem inb_slot (d : Fin 4) : ∀ a, (![d.val, 0, 0, 0, 0] : Fin 5 → Nat) a + S1x2x2x256x256.size a ≤ S4x2x2x256x256.size a := by
  revert d; decide
theorem inb_oslot (d : Fin 4) : ∀ a, (![d.val, 0, 0, 0] : Fin 4 → Nat) a + S1x2x256x512.size a ≤ S4x2x256x512.size a := by
  revert d; decide

/-- What is staged for device `j`; slot `d` of the gathered keys and values; slot `d` of the partial products. -/
abbrev stgS (j : Fin 4) : Memref sig .tc .vmem S2x2x256x256 .bf16 :=
  ((Memref.whole cc0_scratch0).slice (Rect.unit (s := S4x2x2x256x256) ![j.val, 0, 0, 0, 0] S1x2x2x256x256.size (inb_slot j)) (fun _ => rfl)).squeeze
    S2x2x256x256 squeezes_S1x2x2x256x256_S2x2x256x256
abbrev kvgS (d : Fin 4) : Memref sig .tc .vmem S2x2x256x256 .bf16 :=
  ((Memref.whole cc0_scratch1).slice (Rect.unit (s := S4x2x2x256x256) ![d.val, 0, 0, 0, 0] S1x2x2x256x256.size (inb_slot d)) (fun _ => rfl)).squeeze
    S2x2x256x256 squeezes_S1x2x2x256x256_S2x2x256x256
abbrev ogS (d : Fin 4) : Memref sig .tc .vmem S2x256x512 .bf16 :=
  ((Memref.whole cc0_scratch2).slice (Rect.unit (s := S4x2x256x512) ![d.val, 0, 0, 0] S1x2x256x512.size (inb_oslot d)) (fun _ => rfl)).squeeze
    S2x256x512 squeezes_S1x2x256x512_S2x256x512

/-- The entries of slot `d`. -/
def kvSet (d : Fin 4) : Finset S4x2x2x256x256.Idx := Finset.univ.filter fun i => (i 0).val = d.val
def oSet (d : Fin 4) : Finset S4x2x256x512.Idx := Finset.univ.filter fun i => (i 0).val = d.val

theorem mem_slot_rect (d : Fin 4) (i : S4x2x2x256x256.Idx) :
    i ∈ (Rect.unit (s := S4x2x2x256x256) ![d.val, 0, 0, 0, 0] S1x2x2x256x256.size (inb_slot d)).set ↔ (i 0).val = d.val := by
  rw [Rect.mem_set_unit, Fin.forall_fin_succ, Fin.forall_fin_succ, Fin.forall_fin_succ, Fin.forall_fin_succ, Fin.forall_fin_succ]
  have h1 : (i 1).val < 2 := (i 1).isLt
  have h2 : (i 2).val < 2 := (i 2).isLt
  have h3 : (i 3).val < 256 := (i 3).isLt
  have h4 : (i 4).val < 256 := (i 4).isLt
  constructor
  · rintro ⟨⟨a, b⟩, -⟩
    have a' : d.val ≤ (i 0).val := a
    have b' : (i 0).val < d.val + 1 := b
    omega
  · intro h
    refine ⟨⟨le_of_eq h.symm, ?_⟩, ⟨Nat.zero_le _, ?_⟩, ⟨Nat.zero_le _, ?_⟩, ⟨Nat.zero_le _, ?_⟩, ⟨Nat.zero_le _, ?_⟩, fun x => x.elim0⟩
    · show (i 0).val < d.val + 1; omega
    · show (i 1).val < 0 + 2; omega
    · show (i 2).val < 0 + 2; omega
    · show (i 3).val < 0 + 256; omega
    · show (i 4).val < 0 + 256; omega

theorem mem_oslot_rect (d : Fin 4) (i : S4x2x256x512.Idx) :
    i ∈ (Rect.unit (s := S4x2x256x512) ![d.val, 0, 0, 0] S1x2x256x512.size (inb_oslot d)).set ↔ (i 0).val = d.val := by
  rw [Rect.mem_set_unit, Fin.forall_fin_succ, Fin.forall_fin_succ, Fin.forall_fin_succ, Fin.forall_fin_succ]
  have h1 : (i 1).val < 2 := (i 1).isLt
  have h2 : (i 2).val < 256 := (i 2).isLt
  have h3 : (i 3).val < 512 := (i 3).isLt
  constructor
  · rintro ⟨⟨a, b⟩, -⟩
    have a' : d.val ≤ (i 0).val := a
    have b' : (i 0).val < d.val + 1 := b
    omega
  · intro h
    refine ⟨⟨le_of_eq h.symm, ?_⟩, ⟨Nat.zero_le _, ?_⟩, ⟨Nat.zero_le _, ?_⟩, ⟨Nat.zero_le _, ?_⟩, fun x => x.elim0⟩
    · show (i 0).val < d.val + 1; omega
    · show (i 1).val < 0 + 2; omega
    · show (i 2).val < 0 + 256; omega
    · show (i 3).val < 0 + 512; omega

theorem stgS_set (j : Fin 4) : (stgS j).view.set = kvSet j := by
  unfold stgS
  show (((View.whole cc0_scratch0).slice _).reshape _ _).set = _
  rw [View.set_reshape, View.set_slice_whole]
  ext i
  exact (mem_slot_rect j i).trans (by rw [kvSet, Finset.mem_filter]; exact ⟨fun h => ⟨Finset.mem_univ _, h⟩, fun h => h.2⟩)
theorem kvgS_set (d : Fin 4) : (kvgS d).view.set = kvSet d := by
  unfold kvgS
  show (((View.whole cc0_scratch1).slice _).reshape _ _).set = _
  rw [View.set_reshape, View.set_slice_whole]
  ext i
  exact (mem_slot_rect d i).trans (by rw [kvSet, Finset.mem_filter]; exact ⟨fun h => ⟨Finset.mem_univ _, h⟩, fun h => h.2⟩)
theorem ogS_set (d : Fin 4) : (ogS d).view.set = oSet d := by
  unfold ogS
  show (((View.whole cc0_scratch2).slice _).reshape _ _).set = _
  rw [View.set_reshape, View.set_slice_whole]
  ext i
  exact (mem_oslot_rect d i).trans (by rw [oSet, Finset.mem_filter]; exact ⟨fun h => ⟨Finset.mem_univ _, h⟩, fun h => h.2⟩)

/-! ## The buffers a duty hands over -/

/-- What device `c` staged for device `j`, held; slot `d` of its gathered keys and values; a share of slot `d` of its
    partial products. -/
def stgPts (c : Dev nD) (j : Fin 4) (f : (cc0_scratch0 : Ref sig .tc).ty.Contents (Elt F)) : sProp 𝕄 :=
  (stgS j).view.loc (c : Thread nD τ) ↦[(stgS j).view.set]{fullShare} f
def kvgPts (c : Dev nD) (d : Fin 4) (f : (cc0_scratch1 : Ref sig .tc).ty.Contents (Elt F)) : sProp 𝕄 :=
  (kvgS d).view.loc (c : Thread nD τ) ↦[(kvgS d).view.set]{fullShare} f
def ogPts (c : Dev nD) (d : Fin 4) (q : PosShare TreeShare) (f : (cc0_scratch2 : Ref sig .tc).ty.Contents (Elt F)) : sProp 𝕄 :=
  (ogS d).view.loc (c : Thread nD τ) ↦[(ogS d).view.set]{q} f

omit [FloatOps F] in
instance stgPts_storable (c : Dev nD) (j) (f) : BI.Storable (upEmb : UEmb _ 𝕄) (stgPts (F := F) c j f) := by unfold stgPts; infer_instance
omit [FloatOps F] in
instance kvgPts_storable (c : Dev nD) (j) (f) : BI.Storable (upEmb : UEmb _ 𝕄) (kvgPts (F := F) c j f) := by unfold kvgPts; infer_instance
omit [FloatOps F] in
instance ogPts_storable (c : Dev nD) (j q) (f) : BI.Storable (upEmb : UEmb _ 𝕄) (ogPts (F := F) c j q f) := by unfold ogPts; infer_instance

/-- The two slots device `p` hands the peer `up r p` for it to fill. -/
def lend (p : Dev nD) (r : Fin 3) : sProp 𝕄 := iprop((∃ f, kvgPts p r.rev.succ f) ∗ (∃ f, ogPts p r.rev.succ fullShare f))

omit [FloatOps F] in
instance lend_storable (c : Dev nD) (r) : BI.Storable (upEmb : UEmb _ 𝕄) (lend (F := F) c r) := by unfold lend; infer_instance

/-! ## The schedule -/

abbrev Nkv : ℕ := (kvgS 1).view.dmaCredit
abbrev No : ℕ := (ogS 1).view.dmaCredit
theorem Nkv_pos : 0 < Nkv := View.dmaCredit_pos _ (by decide)
theorem No_pos : 0 < No := View.dmaCredit_pos _ (by decide)

/-- The duties of a semaphore's one round, the units one duty pays, and what it hands over on device `c`. -/
def roleDuties : Role → Finset (Fin 3)
  | .bar => Finset.univ
  | .other => ∅
  | _ => {0}
def roleAmount : Role → ℕ
  | .bar => 1
  | .kvs _ | .kvr _ => Nkv
  | .os _ | .orr _ => No
  | .other => 1
def rolePay (c : Dev nD) (d : Fin 3) : Role → sProp 𝕄
  | .bar => lend (up d.rev c) d
  | .kvs r => stgPts c (up r c) (stgV m c)
  | .kvr r => kvgPts c r.succ (kvgV m c)
  | .os r => ogPts c 0 (Transfers.shareTokN fullShare r.val) (ogV m c)
  | .orr r => ogPts c r.succ fullShare (ogV m c)
  | .other => iprop(emp)

theorem roleAmount_pos (R : Role) : 0 < roleAmount R := by
  cases R <;> first | exact Nat.one_pos | exact Nkv_pos | exact No_pos

def sched : Rounds.Schedule (GSem nD τ sig) (Fin 3) 𝕄 where
  duties g r := if r = 0 ∧ g.1.2 = .tc then roleDuties (role g.2) else ∅
  unitless _ := False
  amount g _ _ := roleAmount (role g.2)
  payload g _ d := rolePay m g.1.1 d (role g.2)
  amount_pos g _ _ _ := roleAmount_pos _

instance rolePay_storable (c : Dev nD) (d : Fin 3) (R : Role) : BI.Storable (upEmb : UEmb _ 𝕄) (rolePay (F := F) m c d R) := by
  cases R <;> (unfold rolePay; infer_instance)
instance sched_payload_storable (g : GSem nD τ sig) (r : ℕ) (d : Fin 3) : BI.Storable (upEmb : UEmb _ 𝕄) ((sched (F := F) m).payload g r d) :=
  rolePay_storable m g.1.1 d (role g.2)

section Tables
variable (c : Dev nD) (r : Fin 3)

theorem duties_tc (s : SemLoc sig) : (sched (F := F) m).duties ((c : Thread nD τ), s) 0 = roleDuties (role s) := by dsimp only [sched]; exact if_pos ⟨rfl, rfl⟩
theorem duties_bar : (sched (F := F) m).duties (barCell c) 0 = Finset.univ := duties_tc m c _
theorem duties_kvs : (sched (F := F) m).duties (kvsCell r c) 0 = {0} := (duties_tc m c _).trans (by rw [role_kvs]; rfl)
theorem duties_kvr : (sched (F := F) m).duties (kvrCell r c) 0 = {0} := (duties_tc m c _).trans (by rw [role_kvr]; rfl)
theorem duties_os : (sched (F := F) m).duties (osCell r c) 0 = {0} := (duties_tc m c _).trans (by rw [role_os]; rfl)
theorem duties_or : (sched (F := F) m).duties (orCell r c) 0 = {0} := (duties_tc m c _).trans (by rw [role_or]; rfl)
theorem duties_later (g : GSem nD τ sig) : ∀ r, 1 ≤ r → (sched (F := F) m).duties g r = ∅ := fun r hr => by dsimp only [sched]; exact if_neg fun h => by omega

theorem amount_bar (d : Fin 3) : (sched (F := F) m).amount (barCell c) 0 d = 1 := rfl
theorem amount_kvs (d : Fin 3) : (sched (F := F) m).amount (kvsCell r c) 0 d = Nkv := by show roleAmount (role (.dma (kvsS r))) = _; rw [role_kvs]; rfl
theorem amount_kvr (d : Fin 3) : (sched (F := F) m).amount (kvrCell r c) 0 d = Nkv := by show roleAmount (role (.dma (kvrS r))) = _; rw [role_kvr]; rfl
theorem amount_os (d : Fin 3) : (sched (F := F) m).amount (osCell r c) 0 d = No := by show roleAmount (role (.dma (osS r))) = _; rw [role_os]; rfl
theorem amount_or (d : Fin 3) : (sched (F := F) m).amount (orCell r c) 0 d = No := by show roleAmount (role (.dma (orS r))) = _; rw [role_or]; rfl

theorem payload_bar (d : Fin 3) : (sched (F := F) m).payload (barCell c) 0 d = lend (up d.rev c) d := rfl
theorem payload_kvs (d : Fin 3) : (sched (F := F) m).payload (kvsCell r c) 0 d = stgPts c (up r c) (stgV m c) := by
  show rolePay m c d (role (.dma (kvsS r))) = _; rw [role_kvs]; rfl
theorem payload_kvr (d : Fin 3) : (sched (F := F) m).payload (kvrCell r c) 0 d = kvgPts c r.succ (kvgV m c) := by
  show rolePay m c d (role (.dma (kvrS r))) = _; rw [role_kvr]; rfl
theorem payload_os (d : Fin 3) : (sched (F := F) m).payload (osCell r c) 0 d = ogPts c 0 (Transfers.shareTokN fullShare r.val) (ogV m c) := by
  show rolePay m c d (role (.dma (osS r))) = _; rw [role_os]; rfl
theorem payload_or (d : Fin 3) : (sched (F := F) m).payload (orCell r c) 0 d = ogPts c r.succ fullShare (ogV m c) := by
  show rolePay m c d (role (.dma (orS r))) = _; rw [role_or]; rfl

theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_kvs : (sched (F := F) m).expect (kvsCell r c) 0 = Nkv := by
  unfold Schedule.expect Schedule.amountOf; rw [duties_kvs, Finset.sum_singleton, amount_kvs]
theorem expect_kvr : (sched (F := F) m).expect (kvrCell r c) 0 = Nkv := by
  unfold Schedule.expect Schedule.amountOf; rw [duties_kvr, Finset.sum_singleton, amount_kvr]
theorem expect_os : (sched (F := F) m).expect (osCell r c) 0 = No := by
  unfold Schedule.expect Schedule.amountOf; rw [duties_os, Finset.sum_singleton, amount_os]
theorem expect_or : (sched (F := F) m).expect (orCell r c) 0 = No := by
  unfold Schedule.expect Schedule.amountOf; rw [duties_or, Finset.sum_singleton, amount_or]

end Tables

/-! ## What a device owes at launch; the levels -/

/-- What device `c` owes: each peer's two arrival cells their credits, each peer's barrier cell one unit; the unit first
    paid stands last. -/
def O₀ (c : Dev nD) : CellTallies nD τ sig Unit :=
  tallyAt (orCell 2 (up 2 c)) () No + tallyAt (orCell 1 (up 1 c)) () No + tallyAt (orCell 0 (up 0 c)) () No
    + tallyAt (kvrCell 2 (up 2 c)) () Nkv + tallyAt (kvrCell 1 (up 1 c)) () Nkv + tallyAt (kvrCell 0 (up 0 c)) () Nkv
    + tallyAt (barCell (up 2 c)) () 1 + tallyAt (barCell (up 1 c)) () 1 + tallyAt (barCell (up 0 c)) () 1

def L (g : GSem nD τ sig) : Finset Unit := if g.1.2 = .tc then {()} else ∅
def roleLv : Role → ℕ
  | .bar => 1
  | .kvr _ => 2
  | .orr _ => 3
  | _ => 0
/-- Barrier cells at 1, the arrivals of keys and values at 2, those of partial products at 3, everything else at 0. -/
def lv (g : GSem nD τ sig) (_ : Unit) : ℕ := roleLv (role g.2)

theorem L_of_ne (g : GSem nD τ sig) (h : g.1.2 ≠ .tc) : L g = ∅ := if_neg h
theorem L_tc (c : Dev nD) (sm : SemLoc sig) : L ((c : Thread nD τ), sm) = {()} := if_pos rfl

/-- Owing only to cells above level `n`. -/
def Above (n : ℕ) (O : CellTallies nD τ sig Unit) : Prop := ∀ g u, 0 < O g u → g.1.2 = .tc ∧ n < lv g ()

theorem Above.zero (n : ℕ) : Above n 0 := fun g u h => absurd h (Nat.lt_irrefl 0)
theorem Above.add {n : ℕ} {A B : CellTallies nD τ sig Unit} (hA : Above n A) (hB : Above n B) : Above n (A + B) := fun g u h => by
  rw [Pi.add_apply, Finsupp.add_apply] at h
  rcases Nat.eq_zero_or_pos (A g u) with h0 | h0
  · exact hB g u (by omega)
  · exact hA g u h0
theorem Above.tally {n k : ℕ} {g : GSem nD τ sig} (h1 : g.1.2 = .tc) (h2 : n < lv g ()) : Above n (tallyAt g () k) := fun g' u h => by
  rw [tallyAt_apply] at h
  by_cases hg : g' = g ∧ u = ()
  · rw [hg.1]; exact ⟨h1, h2⟩
  · rw [if_neg hg] at h; exact absurd h (Nat.lt_irrefl 0)
theorem above_bar (c : Dev nD) {n k : ℕ} (h : n < 1) : Above n (tallyAt (barCell c) () k) := Above.tally rfl h
theorem above_kvr (r : Fin 3) (c : Dev nD) {n k : ℕ} (h : n < 2) : Above n (tallyAt (kvrCell r c) () k) :=
  Above.tally rfl (by show n < roleLv (role (.dma (kvrS r))); rw [role_kvr]; exact h)
theorem above_or (r : Fin 3) (c : Dev nD) {n k : ℕ} (h : n < 3) : Above n (tallyAt (orCell r c) () k) :=
  Above.tally rfl (by show n < roleLv (role (.dma (orS r))); rw [role_or]; exact h)

/-- A wait on a semaphore of level at most `n` is allowed while owing only above `n`. -/
theorem mayWait_of_above (c : Dev nD) (s : SemLoc sig) (n : ℕ) (hs : roleLv (role s) ≤ n) (O : CellTallies nD τ sig Unit) (hO : Above n O) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

theorem above_O₀ (c : Dev nD) : Above 0 (O₀ c) :=
  ((((((((above_or 2 _ (by decide)).add (above_or 1 _ (by decide))).add (above_or 0 _ (by decide))).add (above_kvr 2 _ (by decide))).add
    (above_kvr 1 _ (by decide))).add (above_kvr 0 _ (by decide))).add (above_bar _ (by decide))).add (above_bar _ (by decide))).add
    (above_bar _ (by decide))

end Cert.KernelProof
-- ==== Proof.Landing.lean ====
/-
# What lands where

A transfer of the block staged for device `c` into slot `d` of its gathered keys and values, and of a device's own partial
product into slot `d` of a peer's, leave what the slot's contents say.
-/
module

public import proofs.«01_k».proof.Proof.Protocol
public import Idealize.ShloMosaic.Lib.Ring

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem off1_eq : ∀ (c : Dev nD) (r : Fin 3), k0_off1 c (BitVec.ofNat 32 (1 + r.val)) = ![(up r c).val, 0, 0, 0, 0] := by decide +kernel

theorem kvg_emb_slot (d : Fin 4) (j : S2x2x256x256.Idx) : ((kvgS d).view.emb j : S4x2x2x256x256.Idx) 0 = d := by
  have h : (kvgS d).view.emb j ∈ (kvgS d).view.set := View.emb_mem_set _ _
  rw [kvgS_set, kvSet, Finset.mem_filter] at h
  exact Fin.ext h.2

theorem og_emb_slot (d : Fin 4) (j : S2x256x512.Idx) : ((ogS d).view.emb j : S4x2x256x512.Idx) 0 = d := by
  have h : (ogS d).view.emb j ∈ (ogS d).view.set := View.emb_mem_set _ _
  rw [ogS_set, oSet, Finset.mem_filter] at h
  exact Fin.ext h.2

theorem stg_emb_slot (d : Fin 4) (j : S2x2x256x256.Idx) : ((stgS d).view.emb j : S4x2x2x256x256.Idx) 0 = d := by
  have h : (stgS d).view.emb j ∈ (stgS d).view.set := View.emb_mem_set _ _
  rw [stgS_set, kvSet, Finset.mem_filter] at h
  exact Fin.ext h.2

theorem atSlot_kvg (d e : Fin 4) (j : S2x2x256x256.Idx) : atSlot e ((kvgS d).view.emb j) = (stgS e).view.emb j := by
  funext a
  refine Fin.cases ?_ (fun a => Fin.cases ?_ (fun a => Fin.cases ?_ (fun a => Fin.cases ?_ (fun a => Fin.cases ?_ (fun a => a.elim0) a) a) a) a) a
  · exact (stg_emb_slot e j).symm
  · rfl
  · rfl
  · rfl
  · rfl

theorem dropSlot_og (d e : Fin 4) (j : S2x256x512.Idx) : dropSlot ((ogS d).view.emb j) = dropSlot ((ogS e).view.emb j) := by
  funext a
  refine Fin.cases ?_ (fun a => Fin.cases ?_ (fun a => Fin.cases ?_ (fun a => a.elim0) a) a) a
  · rfl
  · rfl
  · rfl

/-- A transfer from device `c'` into slot `d` of the device `d` places after it. -/
theorem kvg_landed (c c' : Dev nD) (d : Fin 4) (h : origin c d = c') (fd : (cc0_scratch1 : Ref sig .tc).ty.Contents (Elt F)) :
    ((kvgS d).view.loc (c : Thread nD τ) ↦[(kvgS d).view.set]{fullShare}
        (kvgS d).view.write (Elt F) fd ((stgS c).view.read (Elt F) (stgV m c')) Finset.univ : sProp 𝕄)
      = kvgPts c d (kvgV m c) := by
  unfold kvgPts
  refine pointsTo_congr fun i hi => ?_
  obtain ⟨j, -, rfl⟩ := Finset.mem_map.mp hi
  rw [View.write_emb_of_mem _ _ (Finset.mem_univ j)]
  show stgV m c' ((stgS c).view.emb j) = stgV m (origin c (((kvgS d).view.emb j : S4x2x2x256x256.Idx) 0)) (atSlot c ((kvgS d).view.emb j))
  rw [kvg_emb_slot, h, atSlot_kvg]

theorem og_landed (c c' : Dev nD) (d : Fin 4) (h : origin c d = c') (fd : (cc0_scratch2 : Ref sig .tc).ty.Contents (Elt F)) :
    ((ogS d).view.loc (c : Thread nD τ) ↦[(ogS d).view.set]{fullShare}
        (ogS d).view.write (Elt F) fd ((ogS 0).view.read (Elt F) (ogV m c')) Finset.univ : sProp 𝕄)
      = ogPts c d fullShare (ogV m c) := by
  unfold ogPts
  refine pointsTo_congr fun i hi => ?_
  obtain ⟨j, -, rfl⟩ := Finset.mem_map.mp hi
  rw [View.write_emb_of_mem _ _ (Finset.mem_univ j)]
  show partV m (origin c' (((ogS 0).view.emb j : S4x2x256x512.Idx) 0)) (dropSlot ((ogS 0).view.emb j))
    = partV m (origin c (((ogS d).view.emb j : S4x2x256x512.Idx) 0)) (dropSlot ((ogS d).view.emb j))
  rw [og_emb_slot, og_emb_slot, h, origin_zero, dropSlot_og 0 d]

/-! ## Slots and whole buffers -/

theorem kvSet_disjoint : ∀ d d' : Fin 4, d ≠ d' → Disjoint (kvSet d) (kvSet d') :=
  fun d d' h => Finset.disjoint_left.mpr fun i h1 h2 => h (Fin.ext ((Finset.mem_filter.mp h1).2.symm.trans (Finset.mem_filter.mp h2).2))
theorem oSet_disjoint : ∀ d d' : Fin 4, d ≠ d' → Disjoint (oSet d) (oSet d') :=
  fun d d' h => Finset.disjoint_left.mpr fun i h1 h2 => h (Fin.ext ((Finset.mem_filter.mp h1).2.symm.trans (Finset.mem_filter.mp h2).2))
theorem kvSet_cover : (Finset.univ : Finset (Fin 4)).biUnion kvSet = Finset.univ :=
  Finset.eq_univ_iff_forall.mpr fun i => Finset.mem_biUnion.mpr ⟨i 0, Finset.mem_univ _, Finset.mem_filter.mpr ⟨Finset.mem_univ _, rfl⟩⟩
theorem oSet_cover : (Finset.univ : Finset (Fin 4)).biUnion oSet = Finset.univ :=
  Finset.eq_univ_iff_forall.mpr fun i => Finset.mem_biUnion.mpr ⟨i 0, Finset.mem_univ _, Finset.mem_filter.mpr ⟨Finset.mem_univ _, rfl⟩⟩

omit [FloatOps F] in
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl

omit [FloatOps F] in
theorem stg_slots (c : Dev nD) (f : (cc0_scratch0 : Ref sig .tc).ty.Contents (Elt F)) :
    (((c : Thread nD τ).loc cc0_scratch0) ↦{fullShare} f : sProp 𝕄) = iprop(stgPts c 0 f ∗ stgPts c 1 f ∗ stgPts c 2 f ∗ stgPts c 3 f) := by
  rw [Ring.pointsTo_blocks (ℓ := (c : Thread nD τ).loc cc0_scratch0) kvSet kvSet_disjoint kvSet_cover f, four]
  unfold stgPts; rw [stgS_set, stgS_set, stgS_set, stgS_set]
omit [FloatOps F] in
theorem kvg_slots (c : Dev nD) (f : (cc0_scratch1 : Ref sig .tc).ty.Contents (Elt F)) :
    (((c : Thread nD τ).loc cc0_scratch1) ↦{fullShare} f : sProp 𝕄) = iprop(kvgPts c 0 f ∗ kvgPts c 1 f ∗ kvgPts c 2 f ∗ kvgPts c 3 f) := by
  rw [Ring.pointsTo_blocks (ℓ := (c : Thread nD τ).loc cc0_scratch1) kvSet kvSet_disjoint kvSet_cover f, four]
  unfold kvgPts; rw [kvgS_set, kvgS_set, kvgS_set, kvgS_set]
omit [FloatOps F] in
theorem og_slots (c : Dev nD) (f : (cc0_scratch2 : Ref sig .tc).ty.Contents (Elt F)) :
    (((c : Thread nD τ).loc cc0_scratch2) ↦{fullShare} f : sProp 𝕄)
      = iprop(ogPts c 0 fullShare f ∗ ogPts c 1 fullShare f ∗ ogPts c 2 fullShare f ∗ ogPts c 3 fullShare f) := by
  rw [Ring.pointsTo_blocks (ℓ := (c : Thread nD τ).loc cc0_scratch2) oSet oSet_disjoint oSet_cover f, four]
  unfold ogPts; rw [ogS_set, ogS_set, ogS_set, ogS_set]

end Cert.KernelProof
-- ==== Proof.Body.lean ====
/-
# One device's run of the kernel body

What a device holds before and after the body, and the body run from the one to the other, at a symbolic device.
-/
module

public import proofs.«01_k».proof.Proof.Landing
public import proofs.«01_k».proof.Proof.Gen.KernelIdeal.Points

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The launch memory: every semaphore at zero. -/
def s₀ : MemSt nD τ sig (Elt F) := ⟨m, fun _ => 0, ρ⟩

/-! ## What a device starts from -/

/-- The semaphores of the exchange: the barrier, then the departures and arrivals. -/
abbrev csem : Fin 13 → SemLoc sig := fun
  | 0 => .reg barS
  | 1 => .dma (kvsS 0) | 2 => .dma (kvsS 1) | 3 => .dma (kvsS 2)
  | 4 => .dma (kvrS 0) | 5 => .dma (kvrS 1) | 6 => .dma (kvrS 2)
  | 7 => .dma (osS 0) | 8 => .dma (osS 1) | 9 => .dma (osS 2)
  | 10 => .dma (orS 0) | 11 => .dma (orS 1) | 12 => .dma (orS 2)
abbrev kcell (ck : Dev nD × Fin 13) : GSem nD τ sig := ((ck.1 : Thread nD τ), csem ck.2)

abbrev iKvs : Fin 3 → Fin 13 := fun | 0 => 1 | 1 => 2 | 2 => 3
abbrev iKvr : Fin 3 → Fin 13 := fun | 0 => 4 | 1 => 5 | 2 => 6
abbrev iOs : Fin 3 → Fin 13 := fun | 0 => 7 | 1 => 8 | 2 => 9
abbrev iOr : Fin 3 → Fin 13 := fun | 0 => 10 | 1 => 11 | 2 => 12

variable (K : Dev nD × Fin 13 → ℕ)

/-- The invariants of the cells device `c` shares with its peer number `r`: its own four, and the peer's three it pays. -/
def ownInv (c : Dev nD) (r : Fin 3) : sProp 𝕄 :=
  iprop(cellInv ER (sched m) (K (c, iKvs r)) (kvsCell r c) ∗ cellInv ER (sched m) (K (c, iKvr r)) (kvrCell r c)
    ∗ cellInv ER (sched m) (K (c, iOs r)) (osCell r c) ∗ cellInv ER (sched m) (K (c, iOr r)) (orCell r c))
def peerInv (c : Dev nD) (r : Fin 3) : sProp 𝕄 :=
  iprop(cellInv ER (sched m) (K (up r c, 0)) (barCell (up r c)) ∗ cellInv ER (sched m) (K (up r c, iKvr r)) (kvrCell r (up r c))
    ∗ cellInv ER (sched m) (K (up r c, iOr r)) (orCell r (up r c)))
def invs (c : Dev nD) : sProp 𝕄 :=
  iprop(cellInv ER (sched m) (K (c, 0)) (barCell c) ∗ (ownInv m K c 0 ∗ ownInv m K c 1 ∗ ownInv m K c 2)
    ∗ (peerInv m K c 0 ∗ peerInv m K c 1 ∗ peerInv m K c 2))

instance ownInv_persistent (c : Dev nD) (r) : BI.Persistent (ownInv m K c r) := by unfold ownInv; infer_instance
instance peerInv_persistent (c : Dev nD) (r) : BI.Persistent (peerInv m K c r) := by unfold peerInv; infer_instance
instance invs_persistent (c : Dev nD) : BI.Persistent (invs m K c) := by unfold invs; infer_instance

/-- The marks that the cells device `c` pays have reached their round. -/
def marks (c : Dev nD) (r : Fin 3) : sProp 𝕄 :=
  iprop(reached ER (barCell (up r c)) 0 ∗ reached ER (kvrCell r (up r c)) 0 ∗ reached ER (orCell r (up r c)) 0
    ∗ reached ER (kvsCell r c) 0 ∗ reached ER (osCell r c) 0)
/-- The duties device `c` pays with its peer number `r`. -/
def toks (c : Dev nD) (r : Fin 3) : sProp 𝕄 :=
  iprop(dutyTok ER (barCell (up r c)) 0 r ∗ dutyTok ER (kvrCell r (up r c)) 0 0 ∗ dutyTok ER (orCell r (up r c)) 0 0
    ∗ dutyTok ER (kvsCell r c) 0 0 ∗ dutyTok ER (osCell r c) 0 0)
/-- Its positions on its own cells. -/
def poss (c : Dev nD) (r : Fin 3) : sProp 𝕄 :=
  iprop(atPos ER (kvsCell r c) 0 ∅ 0 ∗ atPos ER (kvrCell r c) 0 ∅ 0 ∗ atPos ER (osCell r c) 0 ∅ 0 ∗ atPos ER (orCell r c) 0 ∅ 0)
/-- The credits it waits with. -/
def creds (c : Dev nD) (r : Fin 3) : sProp 𝕄 :=
  iprop(cred (tallyAt (kvrCell r c) () Nkv) ∗ cred (tallyAt (orCell r c) () No))

instance marks_persistent (c : Dev nD) (r) : BI.Persistent (marks (F := F) c r) := by unfold marks; infer_instance

/-- Everything about the exchange that device `c` starts from. -/
def ghost (c : Dev nD) : sProp 𝕄 :=
  iprop(invs m K c ∗ (marks c 0 ∗ marks c 1 ∗ marks c 2) ∗ (toks c 0 ∗ toks c 1 ∗ toks c 2)
    ∗ (atPos ER (barCell c) 0 ∅ 0 ∗ poss c 0 ∗ poss c 1 ∗ poss c 2))

def start (c : Dev nD) : sProp 𝕄 :=
  iprop((∃ K, ghost m K c) ∗ (cred (tallyAt (barCell c) () 3) ∗ creds c 0 ∗ creds c 1 ∗ creds c 2)
    ∗ semVal ((c : Thread nD τ), .dma locS) 0 ∗ levAts L lv)

def scr (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

/-- Before the body, and after: the buffers back, every semaphore back at zero. -/
def Φ₀ (c : Dev nD) : sProp 𝕄 := iprop(start m c ∗ scr c)
def Φ₁ (c : Dev nD) : sProp 𝕄 :=
  iprop(scr c ∗ semVal ((c : Thread nD τ), .dma locS) 0 ∗ bigSep Finset.univ (fun k : Fin 13 => semVal (kcell (c, k)) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m c
    | ⟨1, _⟩ => wqA m c
    | ⟨2, _⟩ => kA m c
    | ⟨3, _⟩ => vA m c
    | ⟨4, _⟩ => woA m c
    | ⟨5, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := N_0
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ (cred (tallyAt (barCell c) () 3) ∗ creds c 0 ∗ creds c 1 ∗ creds c 2)
      ∗ semVal ((c : Thread nD τ), .dma locS) 0 ∗ levAts L lv ∗ scr c)
    ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ c ∗ (dats m ρ 0 c).owesAt () t₀.succ ∗ stg c cc0_stg0_0 (xA m c) ∗ stg c cc0_stg1_0 (wqA m c) ∗ stg c cc0_stg2_0 (kA m c)
    ∗ stg c cc0_stg3_0 (vA m c) ∗ stg c cc0_stg4_0 (woA m c) ∗ stg c cc0_stg5_0 (outV m c))

/-! ## The devices and slots the program names -/

theorem dev1_eq : ∀ c : Dev nD, (⟨k0_dev1 c, k0_dev1_lt c⟩ : Dev nD) = up 0 c := by decide +kernel
theorem dev2_eq : ∀ c : Dev nD, (⟨k0_dev2 c, k0_dev2_lt c⟩ : Dev nD) = up 1 c := by decide +kernel
theorem dev3_eq : ∀ c : Dev nD, (⟨k0_dev3 c, k0_dev3_lt c⟩ : Dev nD) = up 2 c := by decide +kernel
theorem dev4_eq : ∀ c : Dev nD, (⟨k0_dev4 c, k0_dev4_lt c⟩ : Dev nD) = up 0 c := by decide +kernel
theorem dev5_eq : ∀ c : Dev nD, (⟨k0_dev5 c, k0_dev5_lt c⟩ : Dev nD) = up 1 c := by decide +kernel
theorem dev6_eq : ∀ c : Dev nD, (⟨k0_dev6 c, k0_dev6_lt c⟩ : Dev nD) = up 2 c := by decide +kernel
theorem dev7_eq : ∀ c : Dev nD, (⟨k0_dev7 c, k0_dev7_lt c⟩ : Dev nD) = up 0 c := by decide +kernel
theorem dev8_eq : ∀ c : Dev nD, (⟨k0_dev8 c, k0_dev8_lt c⟩ : Dev nD) = up 1 c := by decide +kernel
theorem dev9_eq : ∀ c : Dev nD, (⟨k0_dev9 c, k0_dev9_lt c⟩ : Dev nD) = up 2 c := by decide +kernel

theorem rect_congr {o o' : Fin 5 → Nat} (e : o = o') (h : ∀ a, o a + S1x2x2x256x256.size a ≤ S4x2x2x256x256.size a)
    (h' : ∀ a, o' a + S1x2x2x256x256.size a ≤ S4x2x2x256x256.size a) :
    Rect.unit (s := S4x2x2x256x256) o S1x2x2x256x256.size h = Rect.unit (s := S4x2x2x256x256) o' S1x2x2x256x256.size h' := by subst e; rfl

theorem src_eq (o : Fin 5 → Nat) (j : Fin 4) (e : o = ![j.val, 0, 0, 0, 0]) (h) :
    ((Memref.whole cc0_scratch0).slice (Rect.unit (s := S4x2x2x256x256) o S1x2x2x256x256.size h) (fun _ => rfl)).squeeze
      S2x2x256x256 squeezes_S1x2x2x256x256_S2x2x256x256 = stgS j := by subst e; rfl

theorem src1_eq (c : Dev nD) :
    ((Memref.whole cc0_scratch0).slice (Rect.unit (s := S4x2x2x256x256) (k0_off1 c 1#32) S1x2x2x256x256.size (k0_off1_inb c 0)) (fun _ => rfl)).squeeze
      S2x2x256x256 squeezes_S1x2x2x256x256_S2x2x256x256 = stgS (up 0 c) := src_eq _ (up 0 c) (off1_eq c 0) _
theorem src2_eq (c : Dev nD) :
    ((Memref.whole cc0_scratch0).slice (Rect.unit (s := S4x2x2x256x256) (k0_off1 c 2#32) S1x2x2x256x256.size (k0_off1_inb c 1)) (fun _ => rfl)).squeeze
      S2x2x256x256 squeezes_S1x2x2x256x256_S2x2x256x256 = stgS (up 1 c) := src_eq _ (up 1 c) (off1_eq c 1) _
theorem src3_eq (c : Dev nD) :
    ((Memref.whole cc0_scratch0).slice (Rect.unit (s := S4x2x2x256x256) (k0_off1 c 3#32) S1x2x2x256x256.size (k0_off1_inb c 2)) (fun _ => rfl)).squeeze
      S2x2x256x256 squeezes_S1x2x2x256x256_S2x2x256x256 = stgS (up 2 c) := src_eq _ (up 2 c) (off1_eq c 2) _
theorem src0_eq (c : Dev nD) :
    ((Memref.whole cc0_scratch0).slice (Rect.unit (s := S4x2x2x256x256) (k0_off2 c) S1x2x2x256x256.size (k0_off2_inb c)) (fun _ => rfl)).squeeze
      S2x2x256x256 squeezes_S1x2x2x256x256_S2x2x256x256 = stgS c := src_eq _ c (k0_off2_eq c) _

end Cert.KernelProof
-- ==== Proof.Staged.lean ====
/-
# What the stores leave in the staging buffer

Eight stores fill the staging buffer, a key and a value block for each device; together they leave `stgV`.
-/
module

public import proofs.«01_k».proof.Proof.Landing
public import Idealize.ShloMosaic.Lib.Writes
public import Idealize.ShloMosaic.Lib.Pipeline.Value

@[expose] public section

noncomputable section

namespace Cert.KernelProof

open Cert.KernelIdeal Cert.KernelIdeal.Gen
open Idealize.ShloMosaic
open Idealize.ShloMosaic.TcCoe
open Idealize.SL Idealize.SL.Sem

variable {F : FTy → Type} [FloatOps F]

variable (m : (ℓ : Loc nD τ sig) → Buf (Elt F) ℓ)

/-- Three coordinates of a staged block's index. -/
def tail3 (x : S1x1x2x256x256.Idx) : S2x256x256.Idx
  | 0 => x 2
  | 1 => x 3
  | 2 => x 4

theorem block_cast (w : FVec F S2x256x256 .bf16) (x : S1x1x2x256x256.Idx) :
    shapeCast S1x1x2x256x256 (shapeCast S2x256x256 w shapeCasts_S2x256x256_S2x256x256) shapeCasts_S2x256x256_S1x1x2x256x256 x = w (tail3 x) := by
  rw [shapeCast_apply _ _ x (tail3 x), shapeCast_apply _ _ (tail3 x) (tail3 x) rfl]
  refine (Shape.rowMajor_val_three (d := ![2, 256, 256]) _).trans (Eq.trans ?_ (Shape.rowMajor_val_five (d := ![1, 1, 2, 256, 256]) _).symm)
  have h0 : (x 0).val < 1 := (x 0).isLt
  have h1 : (x 1).val < 1 := (x 1).isLt
  show ((x 2).val * 256 + (x 3).val) * 256 + (x 4).val = ((((x 0).val * 1 + (x 1).val) * 2 + (x 2).val) * 256 + (x 3).val) * 256 + (x 4).val
  omega

theorem inb_cols (d : Fin 4) : ∀ a, (![0, 0, 256 * d.val] : Fin 3 → Nat) a + S2x256x256.size a ≤ S2x256x1024.size a := by revert d; decide
theorem inb_piece (d : Fin 4) (s : Fin 2) : ∀ a, (![d.val, s.val, 0, 0, 0] : Fin 5 → Nat) a + S1x1x2x256x256.size a ≤ S4x2x2x256x256.size a := by
  revert d s; decide

/-- The rectangle of the block of kind `s` bound for device `d`. -/
abbrev pieceR (d : Fin 4) (s : Fin 2) : Rect S4x2x2x256x256 := Rect.unit (s := S4x2x2x256x256) ![d.val, s.val, 0, 0, 0] S1x1x2x256x256.size (inb_piece d s)

theorem src_piece (d : Fin 4) (s : Fin 2) (x : S1x1x2x256x256.Idx) :
    srcIdx ((pieceR d s).emb x) = (Rect.unit (s := S2x256x1024) ![0, 0, 256 * d.val] S2x256x256.size (inb_cols d)).emb (tail3 x) := by
  have h0 : (x 0).val < 1 := (x 0).isLt
  funext a
  refine Fin.cases ?_ (fun a => Fin.cases ?_ (fun a => Fin.cases ?_ (fun a => a.elim0) a) a) a
  · rfl
  · rfl
  · refine Fin.ext ?_
    show 256 * (d.val + 1 * (x 0).val) + (0 + 1 * (x 4).val) = 256 * d.val + 1 * (x 4).val
    omega

theorem kind_piece (d : Fin 4) (s : Fin 2) (x : S1x1x2x256x256.Idx) : ((pieceR d s).emb x 1).val = s.val := by
  have h1 : (x 1).val < 1 := (x 1).isLt
  show s.val + 1 * (x 1).val = s.val
  omega

theorem key_piece (c : Dev nD) (d : Fin 4) (x : S1x1x2x256x256.Idx) :
    shapeCast S1x1x2x256x256 (shapeCast S2x256x256 ((Memref.whole cc0_stg2_0).view.readAt (Elt F)
        (Rect.unit (s := S2x256x1024) ![0, 0, 256 * d.val] S2x256x256.size (inb_cols d)).toLoadRect (kA m c))
      shapeCasts_S2x256x256_S2x256x256) shapeCasts_S2x256x256_S1x1x2x256x256 x = stgV m c ((pieceR d 0).emb x) := by
  rw [block_cast]
  unfold stgV
  refine Eq.trans ?_ (if_pos (kind_piece d 0 x)).symm
  rw [src_piece]
  rfl

theorem value_piece (c : Dev nD) (d : Fin 4) (x : S1x1x2x256x256.Idx) :
    shapeCast S1x1x2x256x256 (shapeCast S2x256x256 ((Memref.whole cc0_stg3_0).view.readAt (Elt F)
        (Rect.unit (s := S2x256x1024) ![0, 0, 256 * d.val] S2x256x256.size (inb_cols d)).toLoadRect (vA m c))
      shapeCasts_S2x256x256_S2x256x256) shapeCasts_S2x256x256_S1x1x2x256x256 x = stgV m c ((pieceR d 1).emb x) := by
  rw [block_cast]
  unfold stgV
  refine Eq.trans ?_ (if_neg (by rw [kind_piece d 1 x]; decide)).symm
  rw [src_piece]
  rfl

theorem mem_piece (d : Fin 4) (s : Fin 2) (i : S4x2x2x256x256.Idx) (hd : i 0 = d) (hs : i 1 = s) : i ∈ (pieceR d s).set := by
  rw [Rect.mem_set_unit, Fin.forall_fin_succ, Fin.forall_fin_succ, Fin.forall_fin_succ, Fin.forall_fin_succ, Fin.forall_fin_succ]
  have e0 : (i 0).val = d.val := congrArg Fin.val hd
  have e1 : (i 1).val = s.val := congrArg Fin.val hs
  have h2 : (i 2).val < 2 := (i 2).isLt
  have h3 : (i 3).val < 256 := (i 3).isLt
  have h4 : (i 4).val < 256 := (i 4).isLt
  refine ⟨⟨le_of_eq e0.symm, ?_⟩, ⟨le_of_eq e1.symm, ?_⟩, ⟨Nat.zero_le _, ?_⟩, ⟨Nat.zero_le _, ?_⟩, ⟨Nat.zero_le _, ?_⟩, fun x => x.elim0⟩
  · show (i 0).val < d.val + 1; omega
  · show (i 1).val < s.val + 1; omega
  · show (i 2).val < 0 + 2; omega
  · show (i 3).val < 0 + 256; omega
  · show (i 4).val < 0 + 256; omega

/-- Eight writes that each leave `stgV` on their block leave `stgV`. -/
theorem stg_written (c : Dev nD) (f : (cc0_scratch0 : Ref sig .tc).ty.Contents (Elt F))
    (w : (d : Fin 4) → (s : Fin 2) → S1x1x2x256x256.Idx → Elt F .bf16) (h : ∀ d s x, w d s x = stgV m c ((pieceR d s).emb x)) :
    (Memref.whole cc0_scratch0).view.writes (Elt F) f
      [⟨pieceR 3 1, w 3 1⟩, ⟨pieceR 3 0, w 3 0⟩, ⟨pieceR 2 1, w 2 1⟩, ⟨pieceR 2 0, w 2 0⟩,
       ⟨pieceR 1 1, w 1 1⟩, ⟨pieceR 1 0, w 1 0⟩, ⟨pieceR 0 1, w 0 1⟩, ⟨pieceR 0 0, w 0 0⟩] = stgV m c := by
  refine (View.read_whole (Val := Elt F) cc0_scratch0 _).symm.trans (funext fun i => ?_)
  refine View.read_writes_apply_of_pieces (v := (Memref.whole cc0_scratch0).view) (f := f) (stgV m c) _ ?_ i ?_
  · simp only [List.forall_mem_cons, List.not_mem_nil, false_implies, implies_true, and_true]
    exact ⟨h 3 1, h 3 0, h 2 1, h 2 0, h 1 1, h 1 0, h 0 1, h 0 0⟩
  · obtain ⟨d, hd⟩ : ∃ d : Fin 4, (i 0 : Fin 4) = d := ⟨_, rfl⟩
    obtain ⟨s, hs⟩ : ∃ s : Fin 2, (i 1 : Fin 2) = s := ⟨_, rfl⟩
    refine ⟨⟨pieceR d s, w d s⟩, ?_, mem_piece d s i hd hs⟩
    clear hd hs
    fin_cases d <;> fin_cases s <;> simp

/-- The block of keys bound for device `d`, as device `c` stages it. -/
abbrev keyBlock (c : Dev nD) (d : Fin 4) : FVec F S1x1x2x256x256 .bf16 :=
  shapeCast S1x1x2x256x256 (shapeCast S2x256x256 ((Memref.whole cc0_stg2_0).view.readAt (Elt F)
      (Rect.unit (s := S2x256x1024) ![0, 0, 256 * d.val] S2x256x256.size (inb_cols d)).toLoadRect (kA m c))
    shapeCasts_S2x256x256_S2x256x256) shapeCasts_S2x256x256_S1x1x2x256x256
abbrev valueBlock (c : Dev nD) (d : Fin 4) : FVec F S1x1x2x256x256 .bf16 :=
  shapeCast S1x1x2x256x256 (shapeCast S2x256x256 ((Memref.whole cc0_stg3_0).view.readAt (Elt F)
      (Rect.unit (s := S2x256x1024) ![0, 0, 256 * d.val] S2x256x256.size (inb_cols d)).toLoadRect (vA m c))
    shapeCasts_S2x256x256_S2x256x256) shapeCasts_S2x256x256_S1x1x2x256x256

/-- The eight stores of the kernel. -/
theorem staged (c : Dev nD) (f : (cc0_scratch0 : Ref sig .tc).ty.Contents (Elt F)) :
    (Memref.whole cc0_scratch0).view.writes (Elt F) f
      [⟨pieceR 3 1, valueBlock m c 3⟩, ⟨pieceR 3 0, keyBlock m c 3⟩, ⟨pieceR 2 1, valueBlock m c 2⟩, ⟨pieceR 2 0, keyBlock m c 2⟩,
       ⟨pieceR 1 1, valueBlock m c 1⟩, ⟨pieceR 1 0, keyBlock m c 1⟩, ⟨pieceR 0 1, valueBlock m c 0⟩, ⟨pieceR 0 0, keyBlock m c 0⟩] = stgV m c :=
  stg_written m c f (fun d s => match s with | 0 => keyBlock m c d | 1 => valueBlock m c d) fun d s => match s with
    | 0 => key_piece m c d
    | 1 => value_piece m c d

end Cert.KernelProof
-- ==== Proof.Stored.lean ====
/-
# The stored partial product

What the kernel stores in slot 0 of the partial products is the device's partial product.
-/
module

public import proofs.«01_k».proof.Proof.Landing
public import proofs.«01_k».proof.Proof.Staged

@[expose] public section

noncomputable section

namespace Cert.KernelProof

open Cert.KernelIdeal Cert.KernelIdeal.Gen
open Idealize.ShloMosaic
open Idealize.ShloMosaic.TcCoe
open Idealize.SL Idealize.SL.RA Idealize.SL.BI Idealize.SL.Sem
open scoped Idealize.SL.BI
open Idealize.SL.BI.BIBase Idealize.SL.BI.Laws Idealize.SL.ProofMode

variable {F : FTy → Type} [FloatOps F]

local notation "𝕄" => MT nD τ sig Unit (Elt F) ℕ UU ℕ

variable (m : (ℓ : Loc nD τ sig) → Buf (Elt F) ℓ)

/-- The device's number, as the kernel computes it. -/
abbrev devWord (c : Dev nD) : BitVec 32 := Scalar.remsi (Scalar.divsi (BitVec.ofNat 32 c.val) 1#32) 4#32

abbrev rows : IVec S256x256 32 := iota .tc S256x256 32 [0] iota_S256x256_d0_w32
abbrev cols : IVec S256x256 32 := iota .tc S256x256 32 [1] iota_S256x256_d1_w32

/-- The word of `x` modulo 4, with the sign of 4. -/
def wrap4 (x : BitVec 32) : BitVec 32 :=
  Scalar.select (Scalar.andi (Scalar.xori (Scalar.cmpi .slt (Scalar.remsi x (Scalar.select (Scalar.cmpi .eq 4#32 0#32) 1#32 4#32)) 0#32)
      (Scalar.cmpi .slt (Scalar.select (Scalar.cmpi .eq 4#32 0#32) 1#32 4#32) 0#32))
    (Scalar.cmpi .ne (Scalar.remsi x (Scalar.select (Scalar.cmpi .eq 4#32 0#32) 1#32 4#32)) 0#32))
    (Scalar.addi (Scalar.remsi x (Scalar.select (Scalar.cmpi .eq 4#32 0#32) 1#32 4#32)) (Scalar.select (Scalar.cmpi .eq 4#32 0#32) 1#32 4#32))
    (Scalar.remsi x (Scalar.select (Scalar.cmpi .eq 4#32 0#32) 1#32 4#32))

theorem word0 (c : Dev nD) : devWord c = BitVec.ofNat 32 (origin c 0).val := by revert c; decide +kernel
theorem word1 (c : Dev nD) : wrap4 (Scalar.subi (devWord c) 1#32) = BitVec.ofNat 32 (origin c 1).val := by revert c; decide +kernel
theorem word2 (c : Dev nD) : wrap4 (Scalar.subi (devWord c) 2#32) = BitVec.ofNat 32 (origin c 2).val := by revert c; decide +kernel
theorem word3 (c : Dev nD) : wrap4 (Scalar.addi (devWord c) 1#32) = BitVec.ofNat 32 (origin c 3).val := by revert c; decide +kernel

theorem mask0 (c : Dev nD) : (k0_pay18 (devWord c) : FVec F S256x256 .f32) = maskv (BitVec.ofNat 32 (origin c 0).val) :=
  congrArg maskv (word0 c)
theorem mask1 (c : Dev nD) : (k0_pay50 (devWord c) rows cols k0_pay17 : FVec F S256x256 .f32) = maskv (BitVec.ofNat 32 (origin c 1).val) :=
  congrArg maskv (word1 c)
theorem mask2 (c : Dev nD) : (k0_pay114 (devWord c) rows cols k0_pay17 : FVec F S256x256 .f32) = maskv (BitVec.ofNat 32 (origin c 2).val) :=
  congrArg maskv (word2 c)
theorem mask3 (c : Dev nD) : (k0_pay82 k0_pay17 (k0_pay80 (devWord c) cols) (k0_pay81 (devWord c) rows cols) : FVec F S256x256 .f32)
    = maskv (BitVec.ofNat 32 (origin c 3).val) := congrArg maskv (word3 c)

/-- The four masks, as the kernel computes them. -/
def masks (c : Dev nD) : Fin 4 → FVec F S256x256 .f32
  | 0 => k0_pay18 (devWord c)
  | 1 => k0_pay50 (devWord c) rows cols k0_pay17
  | 2 => k0_pay114 (devWord c) rows cols k0_pay17
  | 3 => k0_pay82 k0_pay17 (k0_pay80 (devWord c) cols) (k0_pay81 (devWord c) rows cols)

theorem masks_eq (c : Dev nD) : (masks c : Fin 4 → FVec F S256x256 .f32) = fun d => maskv (BitVec.ofNat 32 (origin c d).val) := by
  funext d
  refine Fin.cases ?_ (fun d => Fin.cases ?_ (fun d => Fin.cases ?_ (fun d => Fin.cases ?_ (fun d => d.elim0) d) d) d) d
  · exact mask0 c
  · exact mask1 c
  · exact mask2 c
  · exact mask3 c

/-- The three resident operands, as the kernel loads them. -/
def xR (c : Dev nD) : FVec F S2x256x512 .bf16 := k0_pay11 (View.readAt (Elt F) (Memref.whole cc0_stg0_0).view
  (Rect.unit ![0, 0, 0] S2x256x512.size inb_S2x256x512_S2x256x512_0_0_0).toLoadRect (xA m c))
def wqR (c : Dev nD) : FVec F S512x256 .bf16 := k0_pay12 (View.readAt (Elt F) (Memref.whole cc0_stg1_0).view
  (Rect.unit ![0, 0] S512x256.size inb_S512x256_S512x256_0_0).toLoadRect (wqA m c))
def woR (c : Dev nD) : FVec F S256x512 .bf16 := k0_pay13 (View.readAt (Elt F) (Memref.whole cc0_stg4_0).view
  (Rect.unit ![0, 0] S256x512.size inb_S256x512_S256x512_0_0).toLoadRect (woA m c))

theorem zero3 : (![0, 0, 0] : Fin 3 → Nat) = fun _ => 0 := by decide
theorem zero2 : (![0, 0] : Fin 2 → Nat) = fun _ => 0 := by decide

/-- A shape cast to the same shape changes nothing. -/
theorem cast_same {s : Shape} {α : Type} (w : s.Idx → α) (h : s.ShapeCasts s) : shapeCast s w h = w :=
  funext fun i => shapeCast_apply w h i i rfl

theorem xR_eq (c : Dev nD) : xR m c = xA m c := (cast_same _ _).trans (Memref.readAt_unit_zero (Elt F) cc0_stg0_0 zero3 _ _)
theorem wqR_eq (c : Dev nD) : wqR m c = wqA m c := (cast_same _ _).trans (Memref.readAt_unit_zero (Elt F) cc0_stg1_0 zero2 _ _)
theorem woR_eq (c : Dev nD) : woR m c = woA m c := (cast_same _ _).trans (Memref.readAt_unit_zero (Elt F) cc0_stg4_0 zero2 _ _)

/-- The partial product over what the kernel loads. -/
def partR (c : Dev nD) : FVec F S2x256x512 .bf16 :=
  partOf (qv (xR m c) (wqR m c)) (fun d b => slab m c d 0 b) (fun d b => slab m c d 1 b) (masks c) (woR m c)

theorem partR_eq (c : Dev nD) : partR m c = partV m c := by
  unfold partR partV
  rw [masks_eq, xR_eq, wqR_eq, woR_eq]

/-- An entry of the stored block without its slot. -/
def tail4 (x : S1x2x256x512.Idx) : S2x256x512.Idx
  | 0 => x 1
  | 1 => x 2
  | 2 => x 3

/-- The view the store goes through. -/
abbrev slotR : Rect S4x2x256x512 := Rect.unit (s := S4x2x256x512) ![0, 0, 0, 0] S1x2x256x512.size inb_S4x2x256x512_S1x2x256x512_0_0_0_0

theorem cast_slot (w : FVec F S2x256x512 .bf16) (x : S1x2x256x512.Idx) :
    shapeCast S1x2x256x512 w shapeCasts_S2x256x512_S1x2x256x512 x = w (tail4 x) := by
  rw [shapeCast_apply _ _ x (tail4 x)]
  refine (Shape.rowMajor_val_three (d := ![2, 256, 512]) _).trans (Eq.trans ?_ (Shape.rowMajor_val_four (d := ![1, 2, 256, 512]) _).symm)
  have h0 : (x 0).val < 1 := (x 0).isLt
  show ((x 1).val * 256 + (x 2).val) * 512 + (x 3).val = (((x 0).val * 2 + (x 1).val) * 256 + (x 2).val) * 512 + (x 3).val
  omega

theorem dropSlot_slot (x : S1x2x256x512.Idx) : dropSlot (slotR.emb x) = tail4 x := by
  funext a
  refine Fin.cases ?_ (fun a => Fin.cases ?_ (fun a => Fin.cases ?_ (fun a => a.elim0) a) a) a
  · refine Fin.ext ?_; show 0 + 1 * (x 1).val = (x 1).val; omega
  · refine Fin.ext ?_; show 0 + 1 * (x 2).val = (x 2).val; omega
  · refine Fin.ext ?_; show 0 + 1 * (x 3).val = (x 3).val; omega

theorem slot_zero (x : S1x2x256x512.Idx) : (slotR.emb x) 0 = (0 : Fin 4) := by
  have h0 : (x 0).val < 1 := (x 0).isLt
  refine Fin.ext ?_; show 0 + 1 * (x 0).val = 0; omega

theorem ogS_access : (ogS 0).view.set = ((Memref.whole cc0_scratch2).access slotR : View sig .tc _ _ _).set := by
  show (((View.whole cc0_scratch2).slice _).reshape _ _).set = _
  rw [View.set_reshape]
  rfl

/-- Slot 0 after the store. -/
theorem og_stored (c : Dev nD) (f : (cc0_scratch2 : Ref sig .tc).ty.Contents (Elt F)) :
    ((ogS 0).view.loc (c : Thread nD τ) ↦[(ogS 0).view.set]{fullShare}
        View.write (Elt F) ((Memref.whole cc0_scratch2).access slotR)
          f (shapeCast S1x2x256x512 (partR m c) shapeCasts_S2x256x512_S1x2x256x512) Finset.univ : sProp 𝕄)
      = ogPts c 0 fullShare (ogV m c) := by
  unfold ogPts
  refine pointsTo_congr fun i hi => ?_
  rw [ogS_access] at hi
  obtain ⟨x, -, rfl⟩ := Finset.mem_map.mp hi
  refine (View.write_emb_of_mem (v := ((Memref.whole cc0_scratch2).access slotR : View sig .tc _ _ _)) (Val := Elt F) f _ (Finset.mem_univ x)).trans ?_
  refine (cast_slot (partR m c) x).trans ?_
  show _ = partV m (origin c ((slotR.emb x) 0)) (dropSlot (slotR.emb x))
  rw [slot_zero, origin_zero, dropSlot_slot, partR_eq]

/-- The whole of a view is the view. -/
theorem slice_whole_emb {s : Shape} {sp : Space} {e : EltTy} (v : View sig .tc sp s e) (j : s.Idx) : (v.slice (Rect.whole s)).emb j = v.emb j :=
  congrArg v.emb (Rect.emb_whole_apply s j)

/-- The own block, as the local copy leaves it in slot 0. -/
theorem kvg_own (c : Dev nD) (g : (cc0_scratch1 : Ref sig .tc).ty.Contents (Elt F)) :
    ((kvgS 0).view.loc (c : Thread nD τ) ↦[(kvgS 0).view.set]{fullShare}
        (kvgS 0).view.writes (Elt F) g [⟨Rect.whole S2x2x256x256, (stgS c).view.read (Elt F) (stgV m c)⟩] : sProp 𝕄)
      = kvgPts c 0 (kvgV m c) := by
  refine Eq.trans ?_ (kvg_landed m c c 0 (origin_zero c) g)
  refine pointsTo_congr fun i hi => ?_
  obtain ⟨j, -, rfl⟩ := Finset.mem_map.mp hi
  rw [View.write_emb_of_mem _ _ (Finset.mem_univ j), View.writes_singleton]
  have h := View.write_emb_of_mem (v := (kvgS 0).view.slice (Rect.whole S2x2x256x256)) (Val := Elt F) g ((stgS c).view.read (Elt F) (stgV m c)) (M := Finset.univ) (x := j) (Finset.mem_univ j)
  have he : ((kvgS 0).view.slice (Rect.whole S2x2x256x256)).emb j = (kvgS 0).view.emb j := slice_whole_emb (kvgS 0).view j
  exact (congrArg (View.write (Elt F) ((kvgS 0).view.slice (Rect.whole S2x2x256x256)) g ((stgS c).view.read (Elt F) (stgV m c)) Finset.univ) he.symm).trans h

/-! ## The result -/

theorem tail4_reshape (h : S2x256x512.numel = S1x2x256x512.numel) (j : S2x256x512.Idx) : tail4 (Shape.reshapeEquiv h j) = j := by
  refine S2x256x512.rowMajor.injective (Fin.ext ?_)
  rw [← Shape.rowMajor_reshapeEquiv h j]
  refine (Shape.rowMajor_val_three (d := ![2, 256, 512]) _).trans (Eq.trans ?_ (Shape.rowMajor_val_four (d := ![1, 2, 256, 512]) _).symm)
  generalize Shape.reshapeEquiv h j = x
  have h0 : (x 0).val < 1 := (x 0).isLt
  show ((x 1).val * 256 + (x 2).val) * 512 + (x 3).val = (((x 0).val * 2 + (x 1).val) * 256 + (x 2).val) * 512 + (x 3).val
  omega

/-- Slot 0 holds the device's own partial product. -/
theorem read_slot0 (c : Dev nD) : (ogS 0).view.read (Elt F) (ogV m c) = partV m c := by
  funext j
  show partV m (origin c (((ogS 0).view.emb j : S4x2x256x512.Idx) 0)) (dropSlot (slotR.emb (Shape.reshapeEquiv _ j))) = _
  rw [og_emb_slot, origin_zero, dropSlot_slot, tail4_reshape]

/-- What the kernel stores as its result, from what it loads. -/
def outR (c : Dev nD) (f1 f2 f3 : (cc0_scratch2 : Ref sig .tc).ty.Contents (Elt F)) : FVec F S2x256x512 .f32 :=
  addf (addf (addf (extf .f32 ((ogS 0).view.read (Elt F) (ogV m c)) bitsLt_bf16_f32)
      (extf .f32 ((ogS 1).view.read (Elt F) ((ogS 1).view.write (Elt F) f1 ((ogS 0).view.read (Elt F) (ogV m (origin c 1))) Finset.univ)) bitsLt_bf16_f32))
      (extf .f32 ((ogS 2).view.read (Elt F) ((ogS 2).view.write (Elt F) f2 ((ogS 0).view.read (Elt F) (ogV m (origin c 2))) Finset.univ)) bitsLt_bf16_f32))
    (extf .f32 ((ogS 3).view.read (Elt F) ((ogS 3).view.write (Elt F) f3 ((ogS 0).view.read (Elt F) (ogV m (origin c 3))) Finset.univ)) bitsLt_bf16_f32)

theorem outR_eq (c : Dev nD) (f1 f2 f3) : outR m c f1 f2 f3 = outV m c := by
  unfold outR outV
  rw [View.read_write_univ, View.read_write_univ, View.read_write_univ, read_slot0, read_slot0, read_slot0, read_slot0, origin_zero]

theorem out_stored (c : Dev nD) (g : (cc0_stg5_0 : Ref sig .tc).ty.Contents (Elt F)) (f1 f2 f3) :
    (Memref.whole cc0_stg5_0).view.writes (Elt F) g
      [⟨Rect.unit (s := S2x256x512) ![0, 0, 0] S2x256x512.size inb_S2x256x512_S2x256x512_0_0_0, outR m c f1 f2 f3⟩] = outV m c := by
  rw [View.writes_singleton, outR_eq]
  exact Memref.write_access_unit_zero_univ (Elt F) cc0_stg5_0 zero3 _ g (outV m c)

end Cert.KernelProof
-- ==== Proof.BodyRun.lean ====
/-
# The run of the body
-/
module

public import proofs.«01_k».proof.Proof.Body
public import proofs.«01_k».proof.Proof.Stored

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 13 → ℕ)

/-- The body on its staging buffers. -/
abbrev bodyProg : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4 cc0_scratch5 cc0_scratch6 cc0_scratch7

theorem fetched0 (c : Dev nD) (d) : (dats m ρ 0 c).before (0 : Fin 6) t₀ d = xA m c := by unfold Dat.before; rw [if_pos (fetch0_0 t₀)]; rfl
theorem fetched1 (c : Dev nD) (d) : (dats m ρ 0 c).before (1 : Fin 6) t₀ d = wqA m c := by unfold Dat.before; rw [if_pos (fetch0_1 t₀)]; rfl
theorem fetched2 (c : Dev nD) (d) : (dats m ρ 0 c).before (2 : Fin 6) t₀ d = kA m c := by unfold Dat.before; rw [if_pos (fetch0_2 t₀)]; rfl
theorem fetched3 (c : Dev nD) (d) : (dats m ρ 0 c).before (3 : Fin 6) t₀ d = vA m c := by unfold Dat.before; rw [if_pos (fetch0_3 t₀)]; rfl
theorem fetched4 (c : Dev nD) (d) : (dats m ρ 0 c).before (4 : Fin 6) t₀ d = woA m c := by unfold Dat.before; rw [if_pos (fetch0_4 t₀)]; rfl

theorem pay_bar0 (c : Dev nD) : (sched (F := F) m).payload (barCell c) 0 0 = lend (up 2 c) 0 := rfl
theorem pay_bar1 (c : Dev nD) : (sched (F := F) m).payload (barCell c) 0 1 = lend (up 1 c) 1 := rfl
theorem pay_bar2 (c : Dev nD) : (sched (F := F) m).payload (barCell c) 0 2 = lend (up 0 c) 2 := rfl

/-- A device's slots, as it hands them out. -/
theorem lend_slots (c : Dev nD) (f1 : (cc0_scratch1 : Ref sig .tc).ty.Contents (Elt F)) (f2 : (cc0_scratch2 : Ref sig .tc).ty.Contents (Elt F)) :
    iprop((((c : Thread nD τ).loc cc0_scratch1) ↦{fullShare} f1) ∗ (((c : Thread nD τ).loc cc0_scratch2) ↦{fullShare} f2))
      ⊢ (iprop(kvgPts c 0 f1 ∗ ogPts c 0 fullShare f2 ∗ lend c 0 ∗ lend c 1 ∗ lend c 2) : sProp 𝕄) := by
  rw [kvg_slots, og_slots]
  unfold lend
  iintro ⟨⟨Hkv0, Hkv1, Hkv2, Hkv3⟩, ⟨Hog0, Hog1, Hog2, Hog3⟩⟩
  isplitl [Hkv0]; · iexact Hkv0
  isplitl [Hog0]; · iexact Hog0
  isplitl [Hkv3 Hog3]
  · isplitl [Hkv3]
    · iexists f1; iexact Hkv3
    · iexists f2; iexact Hog3
  isplitl [Hkv2 Hog2]
  · isplitl [Hkv2]
    · iexists f1; iexact Hkv2
    · iexists f2; iexact Hog2
  · isplitl [Hkv1]
    · iexists f1; iexact Hkv1
    · iexists f2; iexact Hog1

/-- A buffer held whole, spelt through the memref over it. -/
theorem held (c : Dev nD) (b : Ref sig .tc) (f : b.ty.Contents (Elt F)) :
    ((((c : Dev nD) : Thread nD τ).loc b) ↦{fullShare} f : sProp 𝕄)
      = ((Memref.whole b).view.loc (c : Thread nD τ) ↦[(Memref.whole b).view.set]{fullShare} f) := by
  have h : (Memref.whole b).view.set = Finset.univ := View.set_whole b
  rw [h]

/-- A device's four staged blocks, its peers' first. -/
theorem stg_order (c : Dev nD) (f : (cc0_scratch0 : Ref sig .tc).ty.Contents (Elt F)) :
    ((((c : Dev nD) : Thread nD τ).loc cc0_scratch0) ↦{fullShare} f : sProp 𝕄)
      = iprop(stgPts c (up 0 c) f ∗ stgPts c (up 1 c) f ∗ stgPts c (up 2 c) f ∗ stgPts c c f) := by
  rw [stg_slots, ← four (F := F) (fun j => stgPts c j f),
    bigSep_univ_eq_bigSepL [up 0 c, up 1 c, up 2 c, c] (by revert c; decide) (by revert c; decide), bigSepL_cons_cons, bigSepL_cons_cons, bigSepL_cons_cons, bigSepL_singleton]
  rfl

/-- The staged blocks after the eight stores. -/
theorem staged_held (c : Dev nD) (f : (cc0_scratch0 : Ref sig .tc).ty.Contents (Elt F)) :
    ((Memref.whole cc0_scratch0).view.loc (c : Thread nD τ) ↦[(Memref.whole cc0_scratch0).view.set]{fullShare}
        (Memref.whole cc0_scratch0).view.writes (Elt F) f
          [⟨pieceR 3 1, valueBlock m c 3⟩, ⟨pieceR 3 0, keyBlock m c 3⟩, ⟨pieceR 2 1, valueBlock m c 2⟩, ⟨pieceR 2 0, keyBlock m c 2⟩,
           ⟨pieceR 1 1, valueBlock m c 1⟩, ⟨pieceR 1 0, keyBlock m c 1⟩, ⟨pieceR 0 1, valueBlock m c 0⟩, ⟨pieceR 0 0, keyBlock m c 0⟩] : sProp 𝕄)
      = iprop(stgPts c (up 0 c) (stgV m c) ∗ stgPts c (up 1 c) (stgV m c) ∗ stgPts c (up 2 c) (stgV m c) ∗ stgPts c c (stgV m c)) := by
  rw [staged, ← held, stg_order]

/-- What the three peers' signals bring. -/
theorem bar_rest (c : Dev nD) :
    (bigSep Finset.univ (fun d : Fin 3 => (sched (F := F) m).payload (barCell c) 0 d) : sProp 𝕄)
      = iprop(lend (up 2 c) 0 ∗ lend (up 1 c) 1 ∗ lend (up 0 c) 2) := by
  rw [bigSep_univ_eq_bigSepL [0, 1, 2] (by decide) (by decide), bigSepL_cons_cons, bigSepL_cons_cons, bigSepL_singleton]
  rfl

theorem pay_kvs (c : Dev nD) (r : Fin 3) : (sched (F := F) m).payload (kvsCell r c) 0 0
    = ((stgS (up r c)).view.loc (c : Thread nD τ) ↦[(stgS (up r c)).view.set]{fullShare} stgV m c) := payload_kvs m c r 0

omit [FloatOps F] in
/-- An assertion that does not depend on what is chosen. -/
theorem ex_const {ι : Type} (P : sProp 𝕄) (Φ : ι → sProp 𝕄) (a : ι) (h : ∀ x, Φ x = P) : P = iprop(∃ x, Φ x) := by
  have h1 : P ⊢ iprop(∃ x, Φ x) := by
    rw [← h a]
    iintro H
    iexists a
    iexact H
  have h2 : iprop(∃ x, Φ x) ⊢ P := by
    iintro ⟨%x, H⟩
    iapply (Entails.of_eq (h x))
    iexact H
  exact Entails.antisymm h1 h2

/-- A landed block, as the transfer leaves it. -/
theorem kvg_ex (c : Dev nD) (d : Fin 4) : kvgPts c d (kvgV m c)
    = (iprop(∃ fd : (cc0_scratch1 : Ref sig .tc).ty.Contents (Elt F), (kvgS d).view.loc (c : Thread nD τ) ↦[(kvgS d).view.set]{fullShare}
        (kvgS d).view.write (Elt F) fd ((stgS c).view.read (Elt F) (stgV m (origin c d))) Finset.univ) : sProp 𝕄) :=
  ex_const _ _ (kvgV m c) fun fd => kvg_landed m c (origin c d) d rfl fd
theorem og_ex (c : Dev nD) (d : Fin 4) : ogPts c d fullShare (ogV m c)
    = (iprop(∃ fd : (cc0_scratch2 : Ref sig .tc).ty.Contents (Elt F), (ogS d).view.loc (c : Thread nD τ) ↦[(ogS d).view.set]{fullShare}
        (ogS d).view.write (Elt F) fd ((ogS 0).view.read (Elt F) (ogV m (origin c d))) Finset.univ) : sProp 𝕄) :=
  ex_const _ _ (ogV m c) fun fd => og_landed m c (origin c d) d rfl fd
/-- Slot 0 of the partial products, dealt to the three transfers out of it, and a rest kept. -/
theorem og_deal (c : Dev nD) (f : (cc0_scratch2 : Ref sig .tc).ty.Contents (Elt F)) :
    ogPts c 0 fullShare f = (iprop(ogPts c 0 (Transfers.shareDrop fullShare 3) f ∗ ogPts c 0 (Transfers.shareTokN fullShare 0) f
      ∗ ogPts c 0 (Transfers.shareTokN fullShare 1) f ∗ ogPts c 0 (Transfers.shareTokN fullShare 2) f) : sProp 𝕄) := by
  have h : (ogPts c 0 fullShare f : sProp 𝕄) ⊣⊢ _ := Transfers.pointsTo_toks fullShare 3
  rw [bigSep_univ_eq_bigSepL [0, 1, 2] (by decide) (by decide), bigSepL_cons_cons, bigSepL_cons_cons, bigSepL_singleton] at h
  exact Entails.antisymm h.1 h.2

/-- A landed partial product, at what its owner gathers. -/
theorem og_from (c : Dev nD) (d : Fin 4) (fd : (cc0_scratch2 : Ref sig .tc).ty.Contents (Elt F)) :
    ((ogS d).view.loc (c : Thread nD τ) ↦[(ogS d).view.set]{fullShare}
        (ogS d).view.write (Elt F) fd ((ogS 0).view.read (Elt F) (ogV m (origin c d))) Finset.univ : sProp 𝕄)
      = ogPts c d fullShare (ogV m c) := og_landed m c (origin c d) d rfl fd

/-- A lent slot of a peer, by its number. -/
theorem slot_name (c : Dev nD) (d e : Fin 4) (h : d = e) (f : (cc0_scratch2 : Ref sig .tc).ty.Contents (Elt F)) :
    ((ogS d).view.loc (c : Thread nD τ) ↦[(ogS d).view.set]{fullShare} f : sProp 𝕄)
      = ((ogS e).view.loc (c : Thread nD τ) ↦[(ogS e).view.set]{fullShare} f) := by subst h; rfl

/-- A cell past its only round closes: its counter comes back at zero. -/
theorem close_one (κ : ℕ) (g : GSem nD τ sig) :
    iprop(cellInv ER (sched (F := F) m) κ g ∗ atPos ER g 1 ∅ 0) ⊢ (iprop(|={Set.univ}=> semVal g 0) : sProp 𝕄) :=
  Rounds.cell_close ER (sched m) (Set.mem_univ κ) (fun h => h) (R := 1) (duties_later m g)

/-- The thirteen counters, each at zero. -/
theorem counters (c : Dev nD) : (bigSep Finset.univ (fun k : Fin 13 => semVal (kcell (c, k)) 0) : sProp 𝕄)
    = iprop(semVal (barCell c) 0 ∗ semVal (kvsCell 0 c) 0 ∗ semVal (kvsCell 1 c) 0 ∗ semVal (kvsCell 2 c) 0
      ∗ semVal (kvrCell 0 c) 0 ∗ semVal (kvrCell 1 c) 0 ∗ semVal (kvrCell 2 c) 0
      ∗ semVal (osCell 0 c) 0 ∗ semVal (osCell 1 c) 0 ∗ semVal (osCell 2 c) 0
      ∗ semVal (orCell 0 c) 0 ∗ semVal (orCell 1 c) 0 ∗ semVal (orCell 2 c) 0) := by
  rw [bigSep_univ_eq_bigSepL [0, 1, 2, 3, 4, 5, 6, 7, 8, 9, 10, 11, 12] (by decide) (by decide)]
  iterate 12 rw [bigSepL_cons_cons]
  rw [bigSepL_singleton]
  rfl

/-- At the end nothing is owed. -/
theorem owes_back (c : Dev nD) (W : Waits sig Unit) : (owes (c : Thread nD τ) 0 W : sProp 𝕄) ⊢ (dats m ρ 0 c).owesAt () t₀.succ := by
  unfold Dat.owesAt Pipeline.owesWithin
  rw [show (dats m ρ 0 c).owed t₀.succ = 0 from rfl]
  iintro H
  iexists W
  isplitr
  · ipureintro; exact fun _ _ => Or.inl trivial
  iexact H

/-- Three buffers held whole are the kernel's scratch. -/
theorem scr_back (c : Dev nD) (f0 : (cc0_scratch0 : Ref sig .tc).ty.Contents (Elt F)) (f1 : (cc0_scratch1 : Ref sig .tc).ty.Contents (Elt F))
    (f2 : (cc0_scratch2 : Ref sig .tc).ty.Contents (Elt F)) :
    iprop((stgPts c (up 0 c) f0 ∗ stgPts c (up 1 c) f0 ∗ stgPts c (up 2 c) f0 ∗ stgPts c c f0)
      ∗ (kvgPts c 0 f1 ∗ kvgPts c 1 f1 ∗ kvgPts c 2 f1 ∗ kvgPts c 3 f1)
      ∗ (ogPts c 0 fullShare f2 ∗ ogPts c 1 fullShare f2 ∗ ogPts c 2 fullShare f2 ∗ ogPts c 3 fullShare f2)) ⊢ (scr c : sProp 𝕄) := by
  rw [← stg_order, ← kvg_slots, ← og_slots]
  unfold scr
  iintro ⟨H0, H1, H2⟩
  isplitl [H0]; · iexists f0; iexact H0
  isplitl [H1]; · iexists f1; iexact H1
  iexists f2; iexact H2

theorem kvg_from (c : Dev nD) (d : Fin 4) (fd : (cc0_scratch1 : Ref sig .tc).ty.Contents (Elt F)) :
    ((kvgS d).view.loc (c : Thread nD τ) ↦[(kvgS d).view.set]{fullShare}
        (kvgS d).view.write (Elt F) fd ((stgS c).view.read (Elt F) (stgV m (origin c d))) Finset.univ : sProp 𝕄)
      ⊢ (kvgS d).view.loc (c : Thread nD τ) ↦[(kvgS d).view.set]{fullShare} kvgV m c := Entails.of_eq (kvg_landed m c (origin c d) d rfl fd)

/-- What a device may wait for while it owes the arrivals of its partial product. -/
theorem mayWait3 (c : Dev nD) (s : SemLoc sig) (hs : roleLv (role s) ≤ 2) : (levAts L lv : sProp 𝕄) ⊢ MayWait (c : Thread nD τ) s ()
    (tallyAt (orCell 2 (up 2 c)) () No + tallyAt (orCell 1 (up 1 c)) () No + tallyAt (orCell 0 (up 0 c)) () No) :=
  mayWait_of_above c s 2 hs _ (((above_or 2 _ (by decide)).add (above_or 1 _ (by decide))).add (above_or 0 _ (by decide)))

theorem pay_kvr0 (c : Dev nD) : (sched (F := F) m).payload (kvrCell 0 c) 0 0
    = (iprop(∃ fd : (cc0_scratch1 : Ref sig .tc).ty.Contents (Elt F), (kvgS 1).view.loc (c : Thread nD τ) ↦[(kvgS 1).view.set]{fullShare}
        (kvgS 1).view.write (Elt F) fd ((stgS c).view.read (Elt F) (stgV m (origin c 1))) Finset.univ) : sProp 𝕄) := (payload_kvr m c 0 0).trans (kvg_ex m c 1)
theorem pay_or0 (c : Dev nD) : (sched (F := F) m).payload (orCell 0 c) 0 0
    = (iprop(∃ fd : (cc0_scratch2 : Ref sig .tc).ty.Contents (Elt F), (ogS 1).view.loc (c : Thread nD τ) ↦[(ogS 1).view.set]{fullShare}
        (ogS 1).view.write (Elt F) fd ((ogS 0).view.read (Elt F) (ogV m (origin c 1))) Finset.univ) : sProp 𝕄) := (payload_or m c 0 0).trans (og_ex m c 1)
theorem origin_up0 (c : Dev nD) : origin (up 0 c) 1 = c := origin_up 0 c
theorem pay_kvr1 (c : Dev nD) : (sched (F := F) m).payload (kvrCell 1 c) 0 0
    = (iprop(∃ fd : (cc0_scratch1 : Ref sig .tc).ty.Contents (Elt F), (kvgS 2).view.loc (c : Thread nD τ) ↦[(kvgS 2).view.set]{fullShare}
        (kvgS 2).view.write (Elt F) fd ((stgS c).view.read (Elt F) (stgV m (origin c 2))) Finset.univ) : sProp 𝕄) := (payload_kvr m c 1 0).trans (kvg_ex m c 2)
theorem pay_or1 (c : Dev nD) : (sched (F := F) m).payload (orCell 1 c) 0 0
    = (iprop(∃ fd : (cc0_scratch2 : Ref sig .tc).ty.Contents (Elt F), (ogS 2).view.loc (c : Thread nD τ) ↦[(ogS 2).view.set]{fullShare}
        (ogS 2).view.write (Elt F) fd ((ogS 0).view.read (Elt F) (ogV m (origin c 2))) Finset.univ) : sProp 𝕄) := (payload_or m c 1 0).trans (og_ex m c 2)
theorem origin_up1 (c : Dev nD) : origin (up 1 c) 2 = c := origin_up 1 c
theorem pay_kvr2 (c : Dev nD) : (sched (F := F) m).payload (kvrCell 2 c) 0 0
    = (iprop(∃ fd : (cc0_scratch1 : Ref sig .tc).ty.Contents (Elt F), (kvgS 3).view.loc (c : Thread nD τ) ↦[(kvgS 3).view.set]{fullShare}
        (kvgS 3).view.write (Elt F) fd ((stgS c).view.read (Elt F) (stgV m (origin c 3))) Finset.univ) : sProp 𝕄) := (payload_kvr m c 2 0).trans (kvg_ex m c 3)
theorem pay_or2 (c : Dev nD) : (sched (F := F) m).payload (orCell 2 c) 0 0
    = (iprop(∃ fd : (cc0_scratch2 : Ref sig .tc).ty.Contents (Elt F), (ogS 3).view.loc (c : Thread nD τ) ↦[(ogS 3).view.set]{fullShare}
        (ogS 3).view.write (Elt F) fd ((ogS 0).view.read (Elt F) (ogV m (origin c 3))) Finset.univ) : sProp 𝕄) := (payload_or m c 2 0).trans (og_ex m c 3)
theorem origin_up2 (c : Dev nD) : origin (up 2 c) 3 = c := origin_up 2 c
theorem pay_os (c : Dev nD) (r : Fin 3) : (sched (F := F) m).payload (osCell r c) 0 0
    = ((ogS 0).view.loc (c : Thread nD τ) ↦[(ogS 0).view.set]{Transfers.shareTokN fullShare r.val} ogV m c) := payload_os m c r 0

theorem dstk0 (h : ∀ a, (![0, 0, 0, 0, 0] : Fin 5 → Nat) a + S1x2x2x256x256.size a ≤ S4x2x2x256x256.size a) :
    ((Memref.whole cc0_scratch1).slice (Rect.unit (s := S4x2x2x256x256) ![0, 0, 0, 0, 0] S1x2x2x256x256.size h) (fun _ => rfl)).squeeze
      S2x2x256x256 squeezes_S1x2x2x256x256_S2x2x256x256 = kvgS 0 := rfl
theorem dstk1 (h : ∀ a, (![1, 0, 0, 0, 0] : Fin 5 → Nat) a + S1x2x2x256x256.size a ≤ S4x2x2x256x256.size a) :
    ((Memref.whole cc0_scratch1).slice (Rect.unit (s := S4x2x2x256x256) ![1, 0, 0, 0, 0] S1x2x2x256x256.size h) (fun _ => rfl)).squeeze
      S2x2x256x256 squeezes_S1x2x2x256x256_S2x2x256x256 = kvgS 1 := rfl
theorem dstk2 (h : ∀ a, (![2, 0, 0, 0, 0] : Fin 5 → Nat) a + S1x2x2x256x256.size a ≤ S4x2x2x256x256.size a) :
    ((Memref.whole cc0_scratch1).slice (Rect.unit (s := S4x2x2x256x256) ![2, 0, 0, 0, 0] S1x2x2x256x256.size h) (fun _ => rfl)).squeeze
      S2x2x256x256 squeezes_S1x2x2x256x256_S2x2x256x256 = kvgS 2 := rfl
theorem dstk3 (h : ∀ a, (![3, 0, 0, 0, 0] : Fin 5 → Nat) a + S1x2x2x256x256.size a ≤ S4x2x2x256x256.size a) :
    ((Memref.whole cc0_scratch1).slice (Rect.unit (s := S4x2x2x256x256) ![3, 0, 0, 0, 0] S1x2x2x256x256.size h) (fun _ => rfl)).squeeze
      S2x2x256x256 squeezes_S1x2x2x256x256_S2x2x256x256 = kvgS 3 := rfl
theorem dsto0 (h : ∀ a, (![0, 0, 0, 0] : Fin 4 → Nat) a + S1x2x256x512.size a ≤ S4x2x256x512.size a) :
    ((Memref.whole cc0_scratch2).slice (Rect.unit (s := S4x2x256x512) ![0, 0, 0, 0] S1x2x256x512.size h) (fun _ => rfl)).squeeze
      S2x256x512 squeezes_S1x2x256x512_S2x256x512 = ogS 0 := rfl
theorem dsto1 (h : ∀ a, (![1, 0, 0, 0] : Fin 4 → Nat) a + S1x2x256x512.size a ≤ S4x2x256x512.size a) :
    ((Memref.whole cc0_scratch2).slice (Rect.unit (s := S4x2x256x512) ![1, 0, 0, 0] S1x2x256x512.size h) (fun _ => rfl)).squeeze
      S2x256x512 squeezes_S1x2x256x512_S2x256x512 = ogS 1 := rfl
theorem dsto2 (h : ∀ a, (![2, 0, 0, 0] : Fin 4 → Nat) a + S1x2x256x512.size a ≤ S4x2x256x512.size a) :
    ((Memref.whole cc0_scratch2).slice (Rect.unit (s := S4x2x256x512) ![2, 0, 0, 0] S1x2x256x512.size h) (fun _ => rfl)).squeeze
      S2x256x512 squeezes_S1x2x256x512_S2x256x512 = ogS 2 := rfl
theorem dsto3 (h : ∀ a, (![3, 0, 0, 0] : Fin 4 → Nat) a + S1x2x256x512.size a ≤ S4x2x256x512.size a) :
    ((Memref.whole cc0_scratch2).slice (Rect.unit (s := S4x2x256x512) ![3, 0, 0, 0] S1x2x256x512.size h) (fun _ => rfl)).squeeze
      S2x256x512 squeezes_S1x2x256x512_S2x256x512 = ogS 3 := rfl

attribute [local sl_canon] src0_eq src1_eq src2_eq src3_eq dstk0 dstk1 dstk2 dstk3 dsto0 dsto1 dsto2 dsto3
attribute [local sl_rounds] duties_bar duties_kvs duties_kvr duties_os duties_or amount_bar amount_kvs amount_kvr amount_os amount_or
  pay_bar0 pay_bar1 pay_bar2 up2_up0 up1_up1 up0_up2 pay_kvs pay_kvr0 pay_kvr1 pay_kvr2 pay_os pay_or0 pay_or1 pay_or2 origin_up0 origin_up1 origin_up2 expect_bar expect_kvs expect_kvr expect_os expect_or

set_option maxHeartbeats 4000000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ bodyProg Kt := by
  unfold bodyPre ghost invs ownInv peerInv marks toks poss creds scr
  iintro ⟨⟨⟨⟨⟨#HIb, ⟨⟨#HIs0, #HIv0, #HIo0, #HIr0⟩, ⟨#HIs1, #HIv1, #HIo1, #HIr1⟩, ⟨#HIs2, #HIv2, #HIo2, #HIr2⟩⟩,
      ⟨⟨#HIpb0, #HIpv0, #HIpr0⟩, ⟨#HIpb1, #HIpv1, #HIpr1⟩, ⟨#HIpb2, #HIpv2, #HIpr2⟩⟩⟩,
      ⟨⟨#Mb0, #Mv0, #Mr0, #Ms0, #Mo0⟩, ⟨#Mb1, #Mv1, #Mr1, #Ms1, #Mo1⟩, ⟨#Mb2, #Mv2, #Mr2, #Ms2, #Mo2⟩⟩,
      ⟨⟨Tb0, Tv0, Tr0, Ts0, To0⟩, ⟨Tb1, Tv1, Tr1, Ts1, To1⟩, ⟨Tb2, Tv2, Tr2, Ts2, To2⟩⟩,
      HatB, ⟨HatS0, HatV0, HatO0, HatR0⟩, ⟨HatS1, HatV1, HatO1, HatR1⟩, ⟨HatS2, HatV2, HatO2, HatR2⟩⟩,
      ⟨HcB, ⟨HcV0, HcR0⟩, ⟨HcV1, HcR1⟩, ⟨HcV2, HcR2⟩⟩, HvL, #Hlev, ⟨⟨%f0, Hst⟩, ⟨%f1, Hkv⟩, ⟨%f2, Hog⟩⟩⟩,
    Ho, ⟨%d0, %g0, %hg0, Hx⟩, ⟨%d1, %g1, %hg1, Hwq⟩, ⟨%d2, %g2, %hg2, Hk0⟩, ⟨%d3, %g3, %hg3, Hv0⟩, ⟨%d4, %g4, %hg4, Hwo⟩, ⟨%d5, %g5, %hg5, Hout⟩⟩, Hk⟩
  obtain rfl : g0 = xA m c := hg0.trans (fetched0 m ρ c d0)
  obtain rfl : g1 = wqA m c := hg1.trans (fetched1 m ρ c d1)
  obtain rfl : g2 = kA m c := hg2.trans (fetched2 m ρ c d2)
  obtain rfl : g3 = vA m c := hg3.trans (fetched3 m ρ c d3)
  obtain rfl : g4 = woA m c := hg4.trans (fetched4 m ρ c d4)
  unfold Dat.owesAt Pipeline.owesWithin
  icases Ho with ⟨%W, %hW, HO⟩
  rw [show (dats m ρ 0 c).owed t₀.castSucc = O₀ c from rfl]
  unfold O₀
  have hd1 := dev1_eq c
  have hd2 := dev2_eq c
  have hd3 := dev3_eq c
  ihave Hlend := (lend_slots c f1 f2) $$ [Hkv Hog]
  · isplitl [Hkv]; · iexact Hkv
    iexact Hog
  icases Hlend with ⟨Hkv0, Hog0, Hl0, Hl1, Hl2⟩
  ihave Hst := (Entails.of_eq (held c _ f0)) $$ Hst
  ihave Hx := (Entails.of_eq (held c _ _)) $$ Hx
  ihave Hwq := (Entails.of_eq (held c _ _)) $$ Hwq
  ihave Hk0 := (Entails.of_eq (held c _ _)) $$ Hk0
  ihave Hv0 := (Entails.of_eq (held c _ _)) $$ Hv0
  ihave Hwo := (Entails.of_eq (held c _ _)) $$ Hwo
  ihave Hout := (Entails.of_eq (held c _ _)) $$ Hout
  have hmwb : (levAts L lv : sProp 𝕄) ⊢ MayWait (c : Thread nD τ) (.reg barS) () (tallyAt (orCell 2 (up 2 c)) () No + tallyAt (orCell 1 (up 1 c)) () No + tallyAt (orCell 0 (up 0 c)) () No
    + tallyAt (kvrCell 2 (up 2 c)) () Nkv + tallyAt (kvrCell 1 (up 1 c)) () Nkv + tallyAt (kvrCell 0 (up 0 c)) () Nkv) :=
    mayWait_of_above c _ 1 (le_refl 1) _ ((((((above_or 2 _ (by decide)).add (above_or 1 _ (by decide))).add (above_or 0 _ (by decide))).add (above_kvr 2 _ (by decide))).add
    (above_kvr 1 _ (by decide))).add (above_kvr 0 _ (by decide)))
  sl_unfold [bodyProg, cc0_body]
  sl_exec
  ihave Hst := (Entails.of_eq (staged_held m c f0)) $$ [Hst]
  · iexact Hst
  icases Hst with ⟨Hs0, Hs1, Hs2, Hs3⟩
  ihave HatB_pay1 := (Entails.of_eq (bar_rest m c)) $$ HatB_pay1
  unfold lend
  icases HatB_pay1 with ⟨⟨⟨%fk2, Hdk2⟩, ⟨%fo2, Hdo2⟩⟩, ⟨⟨%fk1, Hdk1⟩, ⟨%fo1, Hdo1⟩⟩, ⟨⟨%fk0, Hdk0⟩, ⟨%fo0, Hdo0⟩⟩⟩
  have hd4 := dev4_eq c
  have hd5 := dev5_eq c
  have hd6 := dev6_eq c
  have hmwL := mayWait3 (F := F) c (.dma locS) (by decide)
  have hmwS0 := mayWait3 (F := F) c (.dma (kvsS 0)) (by decide)
  have hmwS1 := mayWait3 (F := F) c (.dma (kvsS 1)) (by decide)
  have hmwS2 := mayWait3 (F := F) c (.dma (kvsS 2)) (by decide)
  unfold stgPts kvgPts ogPts
  set_option sl_exec.maxSteps 16 in sl_exec
  ihave Hkv0 := (Entails.of_eq (kvg_own m c _)) $$ [Hkv0]
  · iexact Hkv0
  unfold kvgPts
  set_option sl_exec.maxSteps 100 in sl_exec
  have hmwV0 := mayWait3 (F := F) c (.dma (kvrS 0)) (by decide)
  set_option sl_exec.maxSteps 1 in sl_exec
  ihave HatV0_pay1 := (kvg_from m c 1 HatV0_pay1_v) $$ [HatV0_pay1]
  · iexact HatV0_pay1
  set_option sl_exec.maxSteps 100 in sl_exec
  have hmwV2 := mayWait3 (F := F) c (.dma (kvrS 2)) (by decide)
  set_option sl_exec.maxSteps 1 in sl_exec
  ihave HatV2_pay1 := (kvg_from m c 3 HatV2_pay1_v) $$ [HatV2_pay1]
  · iexact HatV2_pay1
  set_option sl_exec.maxSteps 100 in sl_exec
  have hmwV1 := mayWait3 (F := F) c (.dma (kvrS 1)) (by decide)
  set_option sl_exec.maxSteps 1 in sl_exec
  ihave HatV1_pay1 := (kvg_from m c 2 HatV1_pay1_v) $$ [HatV1_pay1]
  · iexact HatV1_pay1
  set_option sl_exec.maxSteps 200 in sl_exec
  ihave Hog0 := (Entails.of_eq (og_stored m c f2)) $$ [Hog0]
  · iexact Hog0
  ihave Hog0 := (Entails.of_eq (og_deal c (ogV m c))) $$ Hog0
  unfold ogPts
  icases Hog0 with ⟨Hogr, Hog0, Hog1, Hog2⟩
  ihave Hdo0 := (Entails.of_eq (slot_name (up 0 c) _ 1 (by decide) fo0)) $$ Hdo0
  ihave Hdo1 := (Entails.of_eq (slot_name (up 1 c) _ 2 (by decide) fo1)) $$ Hdo1
  ihave Hdo2 := (Entails.of_eq (slot_name (up 2 c) _ 3 (by decide) fo2)) $$ Hdo2
  have hd7 := dev7_eq c
  have hd8 := dev8_eq c
  have hd9 := dev9_eq c
  sl_exec
  ihave HatR0_pay1 := (Entails.of_eq (og_from m c 1 HatR0_pay1_v)) $$ HatR0_pay1
  ihave HatR1_pay1 := (Entails.of_eq (og_from m c 2 HatR1_pay1_v)) $$ HatR1_pay1
  ihave HatR2_pay1 := (Entails.of_eq (og_from m c 3 HatR2_pay1_v)) $$ HatR2_pay1
  ihave Hout := (Entails.of_eq (congrArg (fun f => ((Memref.whole cc0_stg5_0).view.loc (c : Thread nD τ) ↦[(Memref.whole cc0_stg5_0).view.set]{fullShare} f : sProp 𝕄))
    (out_stored m c g5 HatR0_pay1_v HatR1_pay1_v HatR2_pay1_v))) $$ [Hout]
  · iexact Hout
  ihave Hog0 := (Entails.of_eq (og_deal c (ogV m c)).symm) $$ [Hogr HatO0_pay1 HatO1_pay1 HatO2_pay1]
  · unfold ogPts
    isplitl [Hogr]; · iexact Hogr
    isplitl [HatO0_pay1]; · iexact HatO0_pay1
    isplitl [HatO1_pay1]; · iexact HatO1_pay1
    iexact HatO2_pay1
  ihave Hscr := (scr_back c (stgV m c) (kvgV m c) (ogV m c)) $$ [Hs3 HatS0_pay1 HatS1_pay1 HatS2_pay1 Hkv0 HatV0_pay1 HatV1_pay1 HatV2_pay1 Hog0 HatR0_pay1 HatR1_pay1 HatR2_pay1]
  · unfold stgPts kvgPts
    isplitl [Hs3 HatS0_pay1 HatS1_pay1 HatS2_pay1]
    · isplitl [HatS0_pay1]; · iexact HatS0_pay1
      isplitl [HatS1_pay1]; · iexact HatS1_pay1
      isplitl [HatS2_pay1] <;> iassumption
    isplitl [Hkv0 HatV0_pay1 HatV1_pay1 HatV2_pay1]
    · isplitl [Hkv0]; · iexact Hkv0
      isplitl [HatV0_pay1]; · iexact HatV0_pay1
      isplitl [HatV1_pay1] <;> iassumption
    isplitl [Hog0]; · iexact Hog0
    isplitl [HatR0_pay1]; · iexact HatR0_pay1
    isplitl [HatR1_pay1] <;> iassumption
  imod (close_one m (K (c, 0)) (barCell c)) $$ [HatB] with HatB
  · isplitr; · iexact HIb
    iexact HatB
  imod (close_one m (K (c, iKvs 0)) (kvsCell 0 c)) $$ [HatS0] with HatS0
  · isplitr; · iexact HIs0
    iexact HatS0
  imod (close_one m (K (c, iKvs 1)) (kvsCell 1 c)) $$ [HatS1] with HatS1
  · isplitr; · iexact HIs1
    iexact HatS1
  imod (close_one m (K (c, iKvs 2)) (kvsCell 2 c)) $$ [HatS2] with HatS2
  · isplitr; · iexact HIs2
    iexact HatS2
  imod (close_one m (K (c, iKvr 0)) (kvrCell 0 c)) $$ [HatV0] with HatV0
  · isplitr; · iexact HIv0
    iexact HatV0
  imod (close_one m (K (c, iKvr 1)) (kvrCell 1 c)) $$ [HatV1] with HatV1
  · isplitr; · iexact HIv1
    iexact HatV1
  imod (close_one m (K (c, iKvr 2)) (kvrCell 2 c)) $$ [HatV2] with HatV2
  · isplitr; · iexact HIv2
    iexact HatV2
  imod (close_one m (K (c, iOs 0)) (osCell 0 c)) $$ [HatO0] with HatO0
  · isplitr; · iexact HIo0
    iexact HatO0
  imod (close_one m (K (c, iOs 1)) (osCell 1 c)) $$ [HatO1] with HatO1
  · isplitr; · iexact HIo1
    iexact HatO1
  imod (close_one m (K (c, iOs 2)) (osCell 2 c)) $$ [HatO2] with HatO2
  · isplitr; · iexact HIo2
    iexact HatO2
  imod (close_one m (K (c, iOr 0)) (orCell 0 c)) $$ [HatR0] with HatR0
  · isplitr; · iexact HIr0
    iexact HatR0
  imod (close_one m (K (c, iOr 1)) (orCell 1 c)) $$ [HatR1] with HatR1
  · isplitr; · iexact HIr1
    iexact HatR1
  imod (close_one m (K (c, iOr 2)) (orCell 2 c)) $$ [HatR2] with HatR2
  · isplitr; · iexact HIr2
    iexact HatR2
  rw [wp_ret]; imodintro
  iapply Hk
  unfold bodyPost Φ₁
  rw [counters]
  isplitl [Hscr HvL HatB HatS0 HatS1 HatS2 HatV0 HatV1 HatV2 HatO0 HatO1 HatO2 HatR0 HatR1 HatR2]
  · isplitl [Hscr]; · iexact Hscr
    isplitl [HvL]; · iexact HvL
    isplitl [HatB]; · iexact HatB
    isplitl [HatS0]; · iexact HatS0
    isplitl [HatS1]; · iexact HatS1
    isplitl [HatS2]; · iexact HatS2
    isplitl [HatV0]; · iexact HatV0
    isplitl [HatV1]; · iexact HatV1
    isplitl [HatV2]; · iexact HatV2
    isplitl [HatO0]; · iexact HatO0
    isplitl [HatO1]; · iexact HatO1
    isplitl [HatO2]; · iexact HatO2
    isplitl [HatR0]; · iexact HatR0
    isplitl [HatR1] <;> iassumption
  isplitl [HO]
  · iapply (owes_back m ρ c _); iexact HO
  isplitl [Hx]
  · iexists _; isplitr; · (ipureintro; rfl)
    iapply (Entails.of_eq (held c _ _).symm); iexact Hx
  isplitl [Hwq]
  · iexists _; isplitr; · (ipureintro; rfl)
    iapply (Entails.of_eq (held c _ _).symm); iexact Hwq
  isplitl [Hk0]
  · iexists _; isplitr; · (ipureintro; rfl)
    iapply (Entails.of_eq (held c _ _).symm); iexact Hk0
  isplitl [Hv0]
  · iexists _; isplitr; · (ipureintro; rfl)
    iapply (Entails.of_eq (held c _ _).symm); iexact Hv0
  isplitl [Hwo]
  · iexists _; isplitr; · (ipureintro; rfl)
    iapply (Entails.of_eq (held c _ _).symm); iexact Hwo
  iexists _; isplitr; · (ipureintro; rfl)
  iapply (Entails.of_eq (held c _ _).symm); iexact Hout

end Cert.KernelProof
-- ==== Proof.Launch.lean ====
/-
# The launch

The four devices' runs of the body put together: the cells' invariants are allocated from the semaphores at zero, the duties
are dealt to the devices that pay them, and the launch theorem of a region gives the run of `main`.
-/
module

public import proofs.«01_k».proof.Proof.BodyRun
public import proofs.«01_k».proof.Proof.Gen.KernelIdeal.Launch
public import Idealize.ShloMosaic.Lib.Pipeline.CollectiveSegs

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the pipeline asks for it -/

set_option maxRecDepth 4000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  show iprop(Φ₀ m c ∗ (dats m ρ 0 c).owesAt () t₀.castSucc
      ∗ (∃ d, stg c cc0_stg0_0 ((dats m ρ 0 c).before (0 : Fin 6) t₀ d))
      ∗ (∃ d, stg c cc0_stg1_0 ((dats m ρ 0 c).before (1 : Fin 6) t₀ d))
      ∗ (∃ d, stg c cc0_stg2_0 ((dats m ρ 0 c).before (2 : Fin 6) t₀ d))
      ∗ (∃ d, stg c cc0_stg3_0 ((dats m ρ 0 c).before (3 : Fin 6) t₀ d))
      ∗ (∃ d, stg c cc0_stg4_0 ((dats m ρ 0 c).before (4 : Fin 6) t₀ d))
      ∗ (∃ d, stg c cc0_stg5_0 ((dats m ρ 0 c).before (5 : Fin 6) t₀ d)))
    ⊢ wp frame (wpE (defs₀ (F := F)) 𝒱₀ c none) Set.univ bodyProg (fun _ => bodyPost m ρ c)
  unfold Φ₀ start
  iintro ⟨⟨⟨⟨%K, Hg⟩, Hcr, Hl, Hlev⟩, Hscr⟩, Hrest⟩
  iapply (sound_body m ρ K c fun _ => bodyPost m ρ c)
  unfold bodyPre
  isplitr []
  · isplitl [Hg Hcr Hl Hlev Hscr]
    · isplitl [Hg]; · iexact Hg
      isplitl [Hcr]; · iexact Hcr
      isplitl [Hl]; · iexact Hl
      isplitl [Hlev]; · iexact Hlev
      iexact Hscr
    iexact Hrest
  · iintro H; iexact H

/-! ## The cells and the duties, as they are minted -/

/-- The body's own semaphores: the exchange's twelve transfer semaphores and the one of the copies on the device. -/
abbrev osem : Fin 13 → SemLoc sig := fun
  | 0 => .dma locS
  | 1 => .dma (kvsS 0) | 2 => .dma (kvsS 1) | 3 => .dma (kvsS 2)
  | 4 => .dma (kvrS 0) | 5 => .dma (kvrS 1) | 6 => .dma (kvrS 2)
  | 7 => .dma (osS 0) | 8 => .dma (osS 1) | 9 => .dma (osS 2)
  | 10 => .dma (orS 0) | 11 => .dma (orS 1) | 12 => .dma (orS 2)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide +kernel

theorem kcell_injective : Function.Injective (kcell : Dev nD × Fin 13 → GSem nD τ sig) := fun a b h =>
  Prod.ext (congrArg (fun g : GSem nD τ sig => g.1.1) h) (csem_injective (congrArg Prod.snd h))

def meshCells : Finset (GSem nD τ sig) := Finset.univ.map ⟨kcell, kcell_injective⟩

/-- The duties of a device's own cells that its peer number `r`, or it with that peer, pays. -/
abbrev dutyOf : Fin 3 × Fin 5 → SemLoc sig × Fin 3 := fun x => match x.2 with
  | 0 => (.reg barS, x.1) | 1 => (.dma (kvrS x.1), 0) | 2 => (.dma (orS x.1), 0)
  | 3 => (.dma (kvsS x.1), 0) | 4 => (.dma (osS x.1), 0)
theorem dutyOf_injective : Function.Injective dutyOf := by decide +kernel

abbrev tokOf (x : Dev nD × (Fin 3 × Fin 5)) : GSem nD τ sig × ℕ × Fin 3 := (((x.1 : Thread nD τ), (dutyOf x.2).1), 0, (dutyOf x.2).2)
theorem tokOf_injective : Function.Injective tokOf := fun a b h =>
  Prod.ext (congrArg (fun x : GSem nD τ sig × ℕ × Fin 3 => x.1.1.1) h)
    (dutyOf_injective (congrArg (fun x : GSem nD τ sig × ℕ × Fin 3 => (x.1.2, x.2.2)) h))
def meshToks : Finset (GSem nD τ sig × ℕ × Fin 3) := Finset.univ.map ⟨tokOf, tokOf_injective⟩

def u₀ : UU := (initOf (Pipeline.cells cfgs cellOf_inj) (Pipeline.launchToks cfgs cellOf_inj), (initOf meshCells meshToks, 1))

/-- Those duties, held. -/
def ownToks (c : Dev nD) (r : Fin 3) : sProp 𝕄 :=
  iprop(dutyTok ER (barCell c) 0 r ∗ dutyTok ER (kvrCell r c) 0 0 ∗ dutyTok ER (orCell r c) 0 0
    ∗ dutyTok ER (kvsCell r c) 0 0 ∗ dutyTok ER (osCell r c) 0 0)

/-- What is minted for device `c`. -/
def G (c : Dev nD) : sProp 𝕄 :=
  iprop((bigSep Finset.univ fun k : Fin 13 => roundState ER (sched m) (kcell (c, k)) 0)
    ∗ (bigSep Finset.univ fun k : Fin 13 => iprop(atPos ER (kcell (c, k)) 0 ∅ 0 ∗ reached ER (kcell (c, k)) 0))
    ∗ bigSep Finset.univ (ownToks c))

/-- What the device has of it when the kernel is launched. -/
def G' (c : Dev nD) : sProp 𝕄 := iprop((∃ K, ghost m K c) ∗ semVal ((c : Thread nD τ), .dma locS) 0)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem bigSep_fin13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun k : Fin 13 => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => bigSep Finset.univ (ownToks c) := by
    unfold meshToks; rw [bigSep_map, bigSep_univ_prod]
    exact bigSep_congr fun c _ => by
      rw [bigSep_univ_prod]
      exact bigSep_congr fun r _ => by unfold ownToks; rw [bigSep_fin5]; rfl
  iintro HX
  imod (Rounds.fund ER (sched m) meshCells meshToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : Fin 13 => semVal ((c : Thread nD τ), osem k) 0 := by
  rw [Pipeline.ownSems0_eq_of_list c osem [0, 1, 2, 3, 4, 5, 6, 7, 8, 9, 10, 11, 12] (by decide) (by decide), bigSep_fin13]; rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The barrier's semaphore and the body's own are the cells' thirteen and the one of the copies on the device. -/
theorem sems0_eq (c : Dev nD) :
    iprop(unscopedSems0 c ∗ Pipeline.ownSems0 (Ix := Unit) (Name := ℕ) (U := UU) (Lvl := ℕ) (Val := Elt F) (τ := τ) osem c)
      = (iprop(semVal (kcell (c, 0)) 0 ∗ semVal ((c : Thread nD τ), .dma locS) 0 ∗ bigSep (Finset.univ.erase 0) fun k : Fin 13 => semVal (kcell (c, k)) 0) : sProp 𝕄) := by
  rw [ownSems0_eq, unscopedSems0_eq, bigSep_univ_at _ (0 : Fin 13)]
  refine congrArg (fun X => iprop(_ ∗ _ ∗ X)) (bigSep_congr fun k hk => ?_)
  have hk0 : k ≠ 0 := (Finset.mem_erase.mp hk).1
  rw [show osem k = csem k from by revert hk0; revert k; decide +kernel]

theorem sems0_split (c : Dev nD) :
    iprop(unscopedSems0 c ∗ Pipeline.ownSems0 (Ix := Unit) (Name := ℕ) (U := UU) (Lvl := ℕ) (Val := Elt F) (τ := τ) osem c)
      ⊢ (iprop(semVal ((c : Thread nD τ), .dma locS) 0 ∗ bigSep Finset.univ fun k : Fin 13 => semVal (kcell (c, k)) 0) : sProp 𝕄) := by
  rw [sems0_eq, bigSep_univ_at (fun k : Fin 13 => (semVal (kcell (c, k)) 0 : sProp 𝕄)) 0]
  iintro ⟨HB, HL, HR⟩
  isplitl [HL]; · iexact HL
  isplitl [HB] <;> iassumption

theorem sems0_join (c : Dev nD) :
    (iprop(semVal ((c : Thread nD τ), .dma locS) 0 ∗ bigSep Finset.univ fun k : Fin 13 => semVal (kcell (c, k)) 0) : sProp 𝕄)
      ⊢ iprop(unscopedSems0 c ∗ Pipeline.ownSems0 (Ix := Unit) (Name := ℕ) (U := UU) (Lvl := ℕ) (Val := Elt F) (τ := τ) osem c) := by
  rw [sems0_eq, bigSep_univ_at (fun k : Fin 13 => (semVal (kcell (c, k)) 0 : sProp 𝕄)) 0]
  iintro ⟨HL, HB, HR⟩
  isplitl [HB]; · iexact HB
  isplitl [HL] <;> iassumption

/-! ## The invariants allocated, the duties dealt -/

/-- Device `c`'s part after the allocation. -/
def made (c : Dev nD) : sProp 𝕄 :=
  iprop((bigSep Finset.univ fun k => iprop(∃ κ : ℕ, cellInv ER (sched m) κ (kcell (c, k))))
    ∗ (bigSep Finset.univ fun k => iprop(atPos ER (kcell (c, k)) 0 ∅ 0 ∗ reached ER (kcell (c, k)) 0))
    ∗ bigSep Finset.univ (ownToks c) ∗ semVal ((c : Thread nD τ), .dma locS) 0)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> made m c := by
  unfold G made
  iintro ⟨Hos, Hus, Hst, Hat, Htok⟩
  ihave Hv := (sems0_split (F := F) c) $$ [Hos Hus]
  · isplitl [Hus] <;> iassumption
  icases Hv with ⟨Hl, Hv⟩
  imod (show iprop((bigSep Finset.univ fun k : Fin 13 => semVal (kcell (c, k)) 0) ∗ bigSep Finset.univ fun k : Fin 13 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- Every cell's invariant, and that every cell has reached its round. -/
def records (K : Dev nD × Fin 13 → ℕ) : sProp 𝕄 :=
  iprop((bigSep Finset.univ fun ck : Dev nD × Fin 13 => cellInv ER (sched m) (K ck) (kcell ck))
    ∗ bigSep Finset.univ fun ck : Dev nD × Fin 13 => reached ER (kcell ck) 0)

instance records_persistent (K : Dev nD × Fin 13 → ℕ) : BI.Persistent (records m K) := by unfold records; infer_instance

theorem inv_at (K : Dev nD × Fin 13 → ℕ) (c : Dev nD) (k : Fin 13) (g : GSem nD τ sig) (h : kcell (c, k) = g) :
    records m K ⊢ cellInv ER (sched m) (K (c, k)) g := by
  subst h; unfold records
  exact sep_elim_left.trans (bigSep_elim (Finset.mem_univ (c, k)))
theorem reached_at (K : Dev nD × Fin 13 → ℕ) (c : Dev nD) (k : Fin 13) (g : GSem nD τ sig) (h : kcell (c, k) = g) :
    records m K ⊢ reached ER g 0 := by
  subst h; unfold records
  exact sep_elim_right.trans (bigSep_elim (Finset.mem_univ (c, k)))

theorem cell_kvs (r : Fin 3) (c : Dev nD) : kcell (c, iKvs r) = kvsCell r c := by fin_cases r <;> rfl
theorem cell_kvr (r : Fin 3) (c : Dev nD) : kcell (c, iKvr r) = kvrCell r c := by fin_cases r <;> rfl
theorem cell_os (r : Fin 3) (c : Dev nD) : kcell (c, iOs r) = osCell r c := by fin_cases r <;> rfl
theorem cell_or (r : Fin 3) (c : Dev nD) : kcell (c, iOr r) = orCell r c := by fin_cases r <;> rfl

theorem ownInv_intro (K : Dev nD × Fin 13 → ℕ) (c : Dev nD) (r : Fin 3) : records m K ⊢ ownInv m K c r := by
  unfold ownInv
  iintro #H
  isplitr; · iapply (inv_at m K c _ _ (cell_kvs r c)); iexact H
  isplitr; · iapply (inv_at m K c _ _ (cell_kvr r c)); iexact H
  isplitr; · iapply (inv_at m K c _ _ (cell_os r c)); iexact H
  iapply (inv_at m K c _ _ (cell_or r c)); iexact H
theorem peerInv_intro (K : Dev nD × Fin 13 → ℕ) (c : Dev nD) (r : Fin 3) : records m K ⊢ peerInv m K c r := by
  unfold peerInv
  iintro #H
  isplitr; · iapply (inv_at m K (up r c) 0 _ rfl); iexact H
  isplitr; · iapply (inv_at m K (up r c) _ _ (cell_kvr r _)); iexact H
  iapply (inv_at m K (up r c) _ _ (cell_or r _)); iexact H
theorem marks_intro (K : Dev nD × Fin 13 → ℕ) (c : Dev nD) (r : Fin 3) : records m K ⊢ marks c r := by
  unfold marks
  iintro #H
  isplitr; · iapply (reached_at m K (up r c) 0 _ rfl); iexact H
  isplitr; · iapply (reached_at m K (up r c) _ _ (cell_kvr r _)); iexact H
  isplitr; · iapply (reached_at m K (up r c) _ _ (cell_or r _)); iexact H
  isplitr; · iapply (reached_at m K c _ _ (cell_kvs r _)); iexact H
  iapply (reached_at m K c _ _ (cell_os r _)); iexact H

/-- What device `c` alone holds: its positions, the duties it pays, its copies' semaphore. -/
def linear (c : Dev nD) : sProp 𝕄 :=
  iprop((bigSep Finset.univ fun k : Fin 13 => atPos ER (kcell (c, k)) 0 ∅ 0) ∗ bigSep Finset.univ (toks c)
    ∗ semVal ((c : Thread nD τ), .dma locS) 0)

omit [FloatOps F] in
theorem poss_intro (c : Dev nD) : (bigSep Finset.univ fun k : Fin 13 => atPos ER (kcell (c, k)) 0 ∅ 0)
    ⊢ (iprop(atPos ER (barCell c) 0 ∅ 0 ∗ poss c 0 ∗ poss c 1 ∗ poss c 2) : sProp 𝕄) := by
  rw [bigSep_fin13]; unfold poss
  iintro ⟨HB, HS0, HS1, HS2, HV0, HV1, HV2, HO0, HO1, HO2, HR0, HR1, HR2⟩
  isplitl [HB]; · iexact HB
  isplitl [HS0 HV0 HO0 HR0]
  · isplitl [HS0]; · iexact HS0
    isplitl [HV0]; · iexact HV0
    isplitl [HO0] <;> iassumption
  isplitl [HS1 HV1 HO1 HR1]
  · isplitl [HS1]; · iexact HS1
    isplitl [HV1]; · iexact HV1
    isplitl [HO1] <;> iassumption
  isplitl [HS2]; · iexact HS2
  isplitl [HV2]; · iexact HV2
  isplitl [HO2] <;> iassumption

theorem ghost_intro (K : Dev nD × Fin 13 → ℕ) (c : Dev nD) : iprop(records m K ∗ linear c) ⊢ G' m c := by
  unfold linear G' ghost invs
  rw [bigSep_fin3]
  iintro ⟨#H, Hat, Htok, Hl⟩
  isplitl [Hat Htok]
  · iexists K
    isplitr
    · isplitr; · iapply (inv_at m K c 0 _ rfl); iexact H
      isplitr
      · isplitr; · iapply (ownInv_intro m K c 0); iexact H
        isplitr; · iapply (ownInv_intro m K c 1); iexact H
        iapply (ownInv_intro m K c 2); iexact H
      · isplitr; · iapply (peerInv_intro m K c 0); iexact H
        isplitr; · iapply (peerInv_intro m K c 1); iexact H
        iapply (peerInv_intro m K c 2); iexact H
    isplitr
    · isplitr; · iapply (marks_intro m K c 0); iexact H
      isplitr; · iapply (marks_intro m K c 1); iexact H
      iapply (marks_intro m K c 2); iexact H
    isplitl [Htok]; · iexact Htok
    iapply (poss_intro c); iexact Hat
  iexact Hl

omit [FloatOps F] in
/-- Each duty goes to the device that pays it. -/
theorem toks_deal (r : Fin 3) : (bigSep Finset.univ fun c : Dev nD => (ownToks c r : sProp 𝕄)) = bigSep Finset.univ fun c : Dev nD => toks c r := by
  unfold ownToks toks
  rw [bigSep_sep', bigSep_sep', bigSep_sep', bigSep_sep', bigSep_sep', bigSep_sep', bigSep_sep', bigSep_sep',
    bigSep_univ_equiv (upEquiv r) (fun c : Dev nD => (dutyTok ER (barCell c) 0 r : sProp 𝕄)),
    bigSep_univ_equiv (upEquiv r) (fun c : Dev nD => (dutyTok ER (kvrCell r c) 0 0 : sProp 𝕄)),
    bigSep_univ_equiv (upEquiv r) (fun c : Dev nD => (dutyTok ER (orCell r c) 0 0 : sProp 𝕄))]
  rfl

omit [FloatOps F] in
theorem toks_around : (bigSep Finset.univ fun c : Dev nD => bigSep Finset.univ (ownToks c) : sProp 𝕄) ⊢ bigSep Finset.univ fun c : Dev nD => bigSep Finset.univ (toks c) := by
  refine Entails.of_eq ?_
  simp only [bigSep_fin3]
  rw [bigSep_sep', bigSep_sep', bigSep_sep', bigSep_sep', toks_deal, toks_deal, toks_deal]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ (made m) : sProp 𝕄) ⊢ bigSep Finset.univ (G' m) := by
  unfold made
  rw [bigSep_sep', bigSep_sep', bigSep_sep', ← bigSep_univ_prod (fun ck : Dev nD × Fin 13 => iprop(∃ κ : ℕ, cellInv ER (sched m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok, Hl⟩
  ihave HK := (BI.bigSep_exists_pi Finset.univ (fun (ck : Dev nD × Fin 13) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · unfold linear
    rw [bigSep_sep', bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits handed out at launch -/

/-- What a tally to one cell says of another. -/
theorem tally_at (a c : Dev nD) (s s' : SemLoc sig) (k : ℕ) :
    (tallyAt ((a : Thread nD τ), s) () k : CellTallies nD τ sig Unit) ((c : Thread nD τ), s') () = if s' = s ∧ c = a then k else 0 := by
  rw [tallyAt_apply]
  refine if_congr ⟨fun h => ?_, fun h => ?_⟩ rfl rfl
  · exact ⟨congrArg Prod.snd h.1, congrArg (fun g : GSem nD τ sig => g.1.1) h.1⟩
  · obtain ⟨rfl, rfl⟩ := h; exact ⟨rfl, rfl⟩
theorem tally_hit (a c : Dev nD) (s : SemLoc sig) (k : ℕ) :
    (tallyAt ((a : Thread nD τ), s) () k : CellTallies nD τ sig Unit) ((c : Thread nD τ), s) () = if c = a then k else 0 :=
  (tally_at a c s s k).trans (if_congr ⟨fun h => h.2, fun h => ⟨rfl, h⟩⟩ rfl rfl)
theorem tally_miss (a c : Dev nD) (s s' : SemLoc sig) (k : ℕ) (h : s' ≠ s) :
    (tallyAt ((a : Thread nD τ), s) () k : CellTallies nD τ sig Unit) ((c : Thread nD τ), s') () = 0 :=
  (tally_at a c s s' k).trans (if_neg fun h' => h h'.1)

/-- Every device is its peers' peer once. -/
theorem sum_up (r : Fin 3) (c : Dev nD) (k : ℕ) : (∑ d : Dev nD, if c = up r d then k else 0) = k :=
  (Equiv.sum_comp (upEquiv r) fun d => if c = d then k else 0).trans (by rw [Finset.sum_ite_eq, if_pos (Finset.mem_univ _)])

theorem owed_bar (d c : Dev nD) :
    O₀ d (barCell c) () = (if c = up 2 d then 1 else 0) + (if c = up 1 d then 1 else 0) + (if c = up 0 d then 1 else 0) := by
  unfold O₀
  simp only [Pi.add_apply, Finsupp.add_apply, tally_hit]
  rw [tally_miss _ _ _ _ _ (by decide), tally_miss _ _ _ _ _ (by decide), tally_miss _ _ _ _ _ (by decide), tally_miss _ _ _ _ _ (by decide),
    tally_miss _ _ _ _ _ (by decide), tally_miss _ _ _ _ _ (by decide), Nat.zero_add]

/-- The transfers owed to a cell. -/
theorem owed_dma (q : DmaSem sig) (d c : Dev nD) : O₀ d ((c : Thread nD τ), .dma q) ()
    = ∑ r : Fin 3, ((if q = orS r then (if c = up r d then No else 0) else 0) + (if q = kvrS r then (if c = up r d then Nkv else 0) else 0)) := by
  have h (a : Dev nD) (s : DmaSem sig) (k : ℕ) : (tallyAt ((a : Thread nD τ), .dma s) () k : CellTallies nD τ sig Unit) ((c : Thread nD τ), .dma q) ()
      = if q = s then (if c = a then k else 0) else 0 := by
    rw [tally_at, ← ite_and]; exact if_congr (by rw [SemLoc.dma.injEq]) rfl rfl
  unfold O₀
  simp only [Pi.add_apply, Finsupp.add_apply, h]
  rw [tally_miss _ _ (.reg barS) (.dma q) _ (fun h => by cases h), tally_miss _ _ (.reg barS) (.dma q) _ (fun h => by cases h),
    tally_miss _ _ (.reg barS) (.dma q) _ (fun h => by cases h), Fin.sum_univ_three]
  omega

theorem kvr_or (r r' : Fin 3) : kvrS r ≠ orS r' := by revert r r'; decide
theorem kvr_inj (r r' : Fin 3) : kvrS r = kvrS r' ↔ r = r' := by revert r r'; decide
theorem or_inj (r r' : Fin 3) : orS r = orS r' ↔ r = r' := by revert r r'; decide

theorem owed_kvr (r : Fin 3) (d c : Dev nD) : O₀ d (kvrCell r c) () = if c = up r d then Nkv else 0 := by
  rw [owed_dma, Finset.sum_congr rfl fun r' _ => by rw [if_neg (kvr_or r r'), Nat.zero_add, if_congr (kvr_inj r r') rfl rfl]]
  rw [Finset.sum_ite_eq, if_pos (Finset.mem_univ _)]
theorem owed_or (r : Fin 3) (d c : Dev nD) : O₀ d (orCell r c) () = if c = up r d then No else 0 := by
  rw [owed_dma, Finset.sum_congr rfl fun r' _ => by rw [if_neg (kvr_or r' r).symm, Nat.add_zero, if_congr (or_inj r r') rfl rfl]]
  rw [Finset.sum_ite_eq, if_pos (Finset.mem_univ _)]

theorem launch_of (g : GSem nD τ sig) (k : ℕ) (h : (∑ d : Dev nD, O₀ d g ()) = k) :
    tallyOn g (launchCredit (Pipeline.owing O₀) 0 g) = (tallyAt g () k : CellTallies nD τ sig Unit) := by
  unfold tallyAt; refine congrArg _ (Finsupp.ext fun u => ?_); cases u
  rw [Pipeline.launchCredit_owing, Finsupp.single_eq_same, h]

theorem launch_bar (c : Dev nD) :
    tallyOn (barCell c) (launchCredit (Pipeline.owing O₀) 0 (barCell c)) = (tallyAt (barCell c) () 3 : CellTallies nD τ sig Unit) :=
  launch_of _ _ (by rw [Finset.sum_congr rfl fun d _ => owed_bar d c, Finset.sum_add_distrib, Finset.sum_add_distrib, sum_up, sum_up, sum_up])
theorem launch_kvr (r : Fin 3) (c : Dev nD) :
    tallyOn (kvrCell r c) (launchCredit (Pipeline.owing O₀) 0 (kvrCell r c)) = (tallyAt (kvrCell r c) () Nkv : CellTallies nD τ sig Unit) :=
  launch_of _ _ (by rw [Finset.sum_congr rfl fun d _ => owed_kvr r d c, sum_up])
theorem launch_or (r : Fin 3) (c : Dev nD) :
    tallyOn (orCell r c) (launchCredit (Pipeline.owing O₀) 0 (orCell r c)) = (tallyAt (orCell r c) () No : CellTallies nD τ sig Unit) :=
  launch_of _ _ (by rw [Finset.sum_congr rfl fun d _ => owed_or r d c, sum_up])

/-- The semaphores a device waits with launch credit on. -/
def waited : List (SemLoc sig) :=
  [.reg barS, .dma (kvrS 0), .dma (orS 0), .dma (kvrS 1), .dma (orS 1), .dma (kvrS 2), .dma (orS 2)]

omit [FloatOps F] in
theorem creds_intro (c : Dev nD) :
    (Pipeline.launchCred O₀ c : sProp 𝕄) ⊢ iprop(cred (tallyAt (barCell c) () 3) ∗ creds c 0 ∗ creds c 1 ∗ creds c 2) := by
  unfold Pipeline.launchCred
  refine (bigSep_subset (t := waited.toFinset) (Finset.subset_univ _)).trans ?_
  rw [bigSep_eq_bigSepL_of_eq waited (by decide) (by decide)]
  unfold waited
  iterate 6 rw [bigSepL_cons_cons]
  rw [bigSepL_singleton, launch_bar, launch_kvr, launch_kvr, launch_kvr, launch_or, launch_or, launch_or]
  unfold creds
  show (iprop(cred (tallyAt (barCell c) () 3) ∗ cred (tallyAt (kvrCell 0 c) () Nkv) ∗ cred (tallyAt (orCell 0 c) () No)
      ∗ cred (tallyAt (kvrCell 1 c) () Nkv) ∗ cred (tallyAt (orCell 1 c) () No) ∗ cred (tallyAt (kvrCell 2 c) () Nkv)
      ∗ cred (tallyAt (orCell 2 c) () No)) : sProp 𝕄) ⊢ _
  iintro ⟨HB, HV0, HR0, HV1, HR1, HV2, HR2⟩
  isplitl [HB]; · iexact HB
  isplitl [HV0 HR0]
  · isplitl [HV0] <;> iassumption
  isplitl [HV1 HR1]
  · isplitl [HV1] <;> iassumption
  isplitl [HV2] <;> iassumption

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  icases HG with ⟨HG, Hl⟩
  isplitl
  · isplitl [HG]; · iexact HG
    isplitl [Hc]; · iexact Hc
    isplitl [Hl] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  iintro ⟨Hr, Hl, Hv⟩
  ihave Hs := (sems0_join (F := F) c) $$ [Hl Hv]
  · isplitl [Hl] <;> iassumption
  icases Hs with ⟨HB, HO⟩
  isplitl [HB]; · iexact HB
  isplitl [HO] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_of_above c _ 0 (by fin_cases w <;> fin_cases s <;> decide) _ (by
      rcases t with ⟨_ | _, ht⟩
      · exact above_O₀ c
      · exact Above.zero 0)

/-! ## The run -/

/-- A window's array after the run, and the final states: every window's array as computed. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

omit [FloatOps F] in
theorem launch_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

set_option maxRecDepth 8000 in
/-- On the mesh of four devices, for any float values, from any memory with the semaphores at zero: every weakly fair
    execution of `main` terminates, with every window's array at its computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (launch_split _ _) $$ Hu
      icases H with ⟨HP, HX⟩
      imod (fund_mesh m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array after the run holds what it held. -/
theorem finalA_in (c : Dev nD) (w : Fin 6) (h : (cfg0.win w).isOut = false) : finalA m ρ c w = (s₀ m ρ).mem ((cfg0.win w).arr.view.loc (c : Thread nD τ)) :=
  (dats (F := F) m ρ 0 c).arrAt_in w h _

/-- The result's array holds `outV`. -/
theorem finalA_out (c : Dev nD) : finalA m ρ c (5 : Fin 6) = outV m c := by
  have hz : (fun a => (win0_5.index (0 : Fin 1)) a * main_v1.ty.shape.size a) = fun _ => 0 := funext fun a => by fin_cases a <;> decide
  have hr := fun f => Memref.read_access_unit_zero (Elt F) main_v1 hz (fun a => by fin_cases a <;> decide) f
  refine (hr (finalA m ρ c (5 : Fin 6))).symm.trans ?_
  show (win0_5.blk (0 : Fin 1)).view.read (Elt F) (finalA m ρ c (5 : Fin 6)) = outV m c
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

/-- The run, read at the arrays: the arguments as they were, every device's result at `outV`, every semaphore at zero. -/
theorem run_values : θ_run defs (onTc (τ := τ) (main (F := F))) (s₀ m ρ) (fun r =>
    (∀ c : Dev nD, r.2.mem ((c.tc : Thread nD τ).loc main_v1) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c (5 : Fin 6)).trans (finalA_out m ρ c),
    (h.1 c (0 : Fin 6)).trans (finalA_in m ρ c 0 rfl), (h.1 c (1 : Fin 6)).trans (finalA_in m ρ c 1 rfl),
    (h.1 c (2 : Fin 6)).trans (finalA_in m ρ c 2 rfl), (h.1 c (3 : Fin 6)).trans (finalA_in m ρ c 3 rfl),
    (h.1 c (4 : Fin 6)).trans (finalA_in m ρ c 4 rfl)⟩, h.2⟩) (run_main m ρ)

end Cert.KernelProof

end
-- ==== Proof.Words.lean ====
/-
# The words of the mask and of the scale
-/
module

public import Idealize.ShloMosaic.Lib.Pointwise
public import Idealize.ShloMosaic.Lib.WordCmp

@[expose] public section

noncomputable section

namespace Cert.KernelProof

open Idealize.ShloMosaic

/-- The word of one eighth. -/
theorem eighth : Ideal.ofBits .f32 0x3E000000#32 = ((1 / 8 : ℝ) : EReal) := by
  simp [Ideal.ofBits, Ideal.ieee, -EReal.coe_mul]; norm_num

/-- The word of minus infinity. -/
theorem neg_inf : Ideal.ofBits .f32 0xFF800000#32 = (⊥ : EReal) := by
  simp [Ideal.ofBits, Ideal.ieee, -EReal.coe_mul]

/-- The word of plus infinity. -/
theorem pos_inf : Ideal.ofBits .f32 0x7F800000#32 = (⊤ : EReal) := by
  simp [Ideal.ofBits, Ideal.ieee, -EReal.coe_mul]

/-- Whether query row `i` attends key row `j`: they are within 128 of each other, or either is among the first 32. -/
abbrev Keep (i j : ℕ) : Prop := (i ≤ j + 128 ∧ j ≤ i + 128) ∨ j < 32 ∨ i < 32

/-- The three comparisons of the mask, on the words of the two row numbers. -/
theorem keep_words (i j : ℕ) (hi : i < 1024) (hj : j < 1024) :
    IntOp.cmpi .sle (IntOp.absi (IntOp.subi (BitVec.ofNat 32 i) (BitVec.ofNat 32 j))) 128#32
        = BitVec.ofBool (decide (i ≤ j + 128 ∧ j ≤ i + 128))
      ∧ IntOp.cmpi .slt (BitVec.ofNat 32 j) 32#32 = BitVec.ofBool (decide (j < 32))
      ∧ IntOp.cmpi .slt (BitVec.ofNat 32 i) 32#32 = BitVec.ofBool (decide (i < 32)) := by
  refine ⟨?_, ?_, ?_⟩
  · rw [WordCmp.cmpi_sle_eq]
    congr 1
    rw [decide_eq_decide]
    have h1 : (BitVec.ofNat 32 i - BitVec.ofNat 32 j).toInt = (i : Int) - j := by
      rw [BitVec.toInt_sub, WordCmp.toInt_ofNat_of_lt (by omega), WordCmp.toInt_ofNat_of_lt (by omega)]
      apply Int.bmod_eq_of_le <;> omega
    unfold IntOp.absi IntOp.subi
    rw [show (128#32 : BitVec 32).toInt = 128 from by decide]
    split
    · next h =>
      rw [BitVec.msb_eq_toInt, decide_eq_true_eq] at h
      have h2 : (-(BitVec.ofNat 32 i - BitVec.ofNat 32 j)).toInt = (j : Int) - i := by
        rw [BitVec.toInt_neg, h1]
        refine (Int.bmod_eq_of_le ?_ ?_).trans ?_ <;> omega
      omega
    · next h =>
      rw [BitVec.msb_eq_toInt, decide_eq_true_eq] at h
      omega
  · rw [WordCmp.cmpi_slt_ofNat (by omega) (by decide)]
  · rw [WordCmp.cmpi_slt_ofNat (by omega) (by decide)]

end Cert.KernelProof
-- ==== Proof.KernelValue.lean ====
/-
# One device's partial product, entry by entry

The kernel's values read over the extended reals: each vector expression of `Values` at an index.
-/
module

public import proofs.«01_k».proof.Proof.Values
public import Idealize.ShloMosaic.Lib.Pointwise
public import proofs.«01_k».proof.Proof.Words

@[expose] public section

set_option maxRecDepth 16384

noncomputable section

namespace Cert.KernelProof

open Cert.KernelIdeal Cert.KernelIdeal.Gen
open Idealize.ShloMosaic
open Idealize.SL Idealize.SL.Sem

theorem qv_apply (x : FVec Ideal S2x256x512 .bf16) (wq : FVec Ideal S512x256 .bf16) (b : Fin 2) (i n : Fin 256) :
    qv x wq b (ix2 i n) = (∑ e : Fin 512, x (ix3 b i e) * wq (ix2 e n)) * Ideal.ofBits .f32 0x3E000000#32 := by
  pointwise [qv]

theorem wts_apply (q k : FVec Ideal S256x256 .bf16) (mk : FVec Ideal S256x256 .f32) (h : Fin 4) (i j : Fin 256) :
    wts q k mk h (ix2 i j) = Ideal.exp (∑ d : Fin 64, q (ix2 i ⟨64 * h.val + d.val, by omega⟩) * k (ix2 j ⟨64 * h.val + d.val, by omega⟩)) * mk (ix2 i j) := by
  pointwise [wts, head]

theorem den1_apply (w : FVec Ideal S256x256 .f32) (i : Fin 256) (z : Fin 1) :
    den1 w (ix2 i z) = ∑ j : Fin 256, w (ix2 i j) := by
  pointwise [den1]

theorem ctx1_apply (w : FVec Ideal S256x256 .f32) (v : FVec Ideal S256x256 .bf16) (h : Fin 4) (i : Fin 256) (d : Fin 64) :
    ctx1 w v h (ix2 i d) = ∑ j : Fin 256, w (ix2 i j) * v (ix2 j ⟨64 * h.val + d.val, by omega⟩) := by
  pointwise [ctx1, head]

theorem maskv_apply (o : Fin 4) (i j : Fin 256) :
    (maskv (BitVec.ofNat 32 o.val) (ix2 i j) : Ideal .f32) = if Keep i.val (256 * o.val + j.val) then 1 else 0 := by
  pointwise [maskv]
  have hw : IntOp.addi (BitVec.ofNat 32 j.val) (Scalar.muli (BitVec.ofNat 32 o.val) 256#32) = BitVec.ofNat 32 (256 * o.val + j.val) := by
    unfold Scalar.muli IntOp.addi IntOp.muli
    apply BitVec.eq_of_toNat_eq
    simp
    omega
  obtain ⟨h1, h2, h3⟩ := keep_words i.val (256 * o.val + j.val) (by omega) (by omega)
  rw [hw, h1, h2, h3]
  have hk : ∀ p : Bool, (FloatOps.sitofp (F := Ideal) .f32 (BitVec.setWidth 32 (BitVec.ofBool p)) : EReal) = if p = true then 1 else 0 := by
    intro p
    cases p <;> simp [FloatOps.sitofp]
  simp only [WordCmp.ori_ofBool]
  rw [hk]
  simp only [Bool.or_eq_true, decide_eq_true_eq, or_assoc]

theorem headOut_apply (q : FVec Ideal S256x256 .bf16) (k v : Fin 4 → FVec Ideal S256x256 .bf16) (mk : Fin 4 → FVec Ideal S256x256 .f32)
    (h : Fin 4) (i : Fin 256) (d : Fin 64) :
    headOut q k v mk h (ix2 i d) =
      Ideal.div
        (ctx1 (wts q (k 0) (mk 0) h) (v 0) h (ix2 i d) + ctx1 (wts q (k 1) (mk 1) h) (v 1) h (ix2 i d)
            + ctx1 (wts q (k 3) (mk 3) h) (v 3) h (ix2 i d) + ctx1 (wts q (k 2) (mk 2) h) (v 2) h (ix2 i d))
        (den1 (wts q (k 0) (mk 0) h) (ix2 i 0) + den1 (wts q (k 1) (mk 1) h) (ix2 i 0)
            + den1 (wts q (k 3) (mk 3) h) (ix2 i 0) + den1 (wts q (k 2) (mk 2) h) (ix2 i 0)) := by
  pointwise [headOut]

theorem batchOut_apply (q : FVec Ideal S256x256 .bf16) (k v : Fin 4 → FVec Ideal S256x256 .bf16) (mk : Fin 4 → FVec Ideal S256x256 .f32)
    (wo : FVec Ideal S256x512 .bf16) (i : Fin 256) (n : Fin 512) :
    batchOut q k v mk wo (ix2 i n)
      = ∑ x : Fin 256, headOut q k v mk ⟨x.val / 64, by omega⟩ (ix2 i ⟨x.val % 64, by omega⟩) * wo (ix2 x n) := by
  have hh : ∀ (a a' : Fin 4) (d d' : Fin 64), a.val = a'.val → d.val = d'.val → headOut q k v mk a (ix2 i d) = headOut q k v mk a' (ix2 i d') := by
    intro a a' d d' h h'
    rw [Fin.ext h, Fin.ext h']
  pointwise [batchOut]
  refine Finset.sum_congr rfl fun x _ => ?_
  congr 1
  split
  · exact hh _ _ _ _ (show 0 = x.val / 64 by omega) (show x.val = x.val % 64 by omega)
  · split
    · exact hh _ _ _ _ (show 1 = x.val / 64 by omega) (show x.val - 64 = x.val % 64 by omega)
    · split
      · exact hh _ _ _ _ (show 2 = x.val / 64 by omega) (show x.val - 64 - 64 = x.val % 64 by omega)
      · exact hh _ _ _ _ (show 3 = x.val / 64 by omega) (show x.val - 64 - 64 - 64 = x.val % 64 by omega)

theorem partOf_apply (q : Fin 2 → FVec Ideal S256x256 .bf16) (k v : Fin 4 → Fin 2 → FVec Ideal S256x256 .bf16) (mk : Fin 4 → FVec Ideal S256x256 .f32)
    (wo : FVec Ideal S256x512 .bf16) (b : Fin 2) (i : Fin 256) (n : Fin 512) :
    partOf q k v mk wo (ix3 b i n) = batchOut (q b) (fun s => k s b) (fun s => v s b) mk wo (ix2 i n) := by
  pointwise [partOf]
  fin_cases b <;> rfl

variable (m : (ℓ : Loc nD τ sig) → Buf (Elt Ideal) ℓ)

theorem slab_cast {α : Type} (Y : S1x1x1x256x256.Idx → α) (h : S1x1x1x256x256.ShapeCasts S256x256) (r n : Fin 256) :
    shapeCast S256x256 Y h (ix2 r n) = Y (ix5 0 0 0 r n) := by
  pointwise

theorem slab_load (f : S4x2x2x256x256.Idx → Ideal .bf16) (d : Fin 4) (s b : Fin 2) (y : S1x1x1x256x256.Idx) :
    (Memref.whole cc0_scratch1).view.readAt (Elt Ideal)
      (Rect.unit (s := S4x2x2x256x256) ![d.val, s.val, b.val, 0, 0] S1x1x1x256x256.size (inb_slab d s b)).toLoadRect f y
      = f (ix5 d s b (y 3) (y 4)) := by
  rw [View.readAt_apply]
  have e : (Rect.unit (s := S4x2x2x256x256) ![d.val, s.val, b.val, 0, 0] S1x1x1x256x256.size (inb_slab d s b)).toLoadRect.idx y
      = ix5 d s b (y 3) (y 4) := by
    have h0 : (y 0).val < 1 := (y 0).isLt
    have h1 : (y 1).val < 1 := (y 1).isLt
    have h2 : (y 2).val < 1 := (y 2).isLt
    funext a
    apply Fin.ext
    match a with
    | ⟨0, _⟩ => show d.val + 1 * (y 0).val = d.val; omega
    | ⟨1, _⟩ => show s.val + 1 * (y 1).val = s.val; omega
    | ⟨2, _⟩ => show b.val + 1 * (y 2).val = b.val; omega
    | ⟨3, _⟩ => show 0 + 1 * (y 3).val = (y 3).val; omega
    | ⟨4, _⟩ => show 0 + 1 * (y 4).val = (y 4).val; omega
  rw [e]
  rfl

theorem slab_apply (c : Dev nD) (d : Fin 4) (s b : Fin 2) (r n : Fin 256) :
    slab m c d s b (ix2 r n) = kvgV m c (ix5 d s b r n) := by
  unfold slab
  rw [slab_cast, slab_load]
  rfl

theorem xA_eq (c : Dev nD) : xA m c = m ((c.tc : Thread nD τ).loc main_arg0) := by
  unfold xA
  exact Memref.read_access_unit_zero (Elt Ideal) main_arg0 (funext fun a => by fin_cases a <;> decide) (fun a => by fin_cases a <;> decide) _

end Cert.KernelProof
-- ==== Proof.Softmax.lean ====
/-
# Normalising after or before the product

A row of real scores, some of them masked: the reference fills the masked ones with minus infinity, takes the row's greatest score
off, exponentiates, divides by the sum and then multiplies by the values; the kernel multiplies the exponentials by a mask of
ones and zeros and by the values, and divides at the end. Both give the same row.
-/
module

public import Idealize.ShloMosaic.Lib.Pointwise

@[expose] public section

noncomputable section

namespace Cert.KernelProof

open Idealize.ShloMosaic

/-- A sum of extended reals times a nonnegative real. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- A sum of reals, read among the extended reals. -/
theorem coe_sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (x : EReal) (r : ℝ) (hr : r ≠ 0) : Ideal.div x (r : EReal) = x * ((r⁻¹ : ℝ) : EReal) := by
  unfold Ideal.div
  rw [if_neg (by exact_mod_cast hr), EReal.coe_inv]

section row

variable {ι : Type} [Fintype ι] (s : ι → ℝ) (keep : ι → Prop) [DecidablePred keep]

/-- The scores with the masked ones at minus infinity. -/
def filled (j : ι) : EReal := if keep j then (s j : EReal) else ⊥

/-- The exponentials with the masked ones at zero. -/
def kept (j : ι) : ℝ := if keep j then Real.exp (s j) else 0

theorem kept_nonneg (j : ι) : 0 ≤ kept s keep j := by
  unfold kept; split
  · exact (Real.exp_pos _).le
  · exact le_rfl

theorem kept_sum_pos (j0 : ι) (h0 : keep j0) : 0 < ∑ j, kept s keep j :=
  Finset.sum_pos' (fun j _ => kept_nonneg s keep j)
    ⟨j0, Finset.mem_univ _, by unfold kept; rw [if_pos h0]; exact Real.exp_pos _⟩

/-- The kernel's masked exponential. -/
theorem exp_mask (j : ι) : Ideal.exp (s j : EReal) * (if keep j then (1 : EReal) else 0) = (kept s keep j : EReal) := by
  unfold kept
  split
  · rw [mul_one]; rfl
  · rw [mul_zero]; rfl

/-- The greatest filled score is a real number, as soon as one is kept. -/
theorem top_real (j0 : ι) (h0 : keep j0) : ∃ r : ℝ, Finset.univ.fold max ⊥ (filled s keep) = (r : EReal) := by
  obtain ⟨j1, -, h1⟩ := Finset.exists_max_image Finset.univ (filled s keep) ⟨j0, Finset.mem_univ _⟩
  have hle : Finset.univ.fold max ⊥ (filled s keep) ≤ filled s keep j1 :=
    (Finset.fold_max_le _).2 ⟨bot_le, h1⟩
  have hge : filled s keep j1 ≤ Finset.univ.fold max ⊥ (filled s keep) :=
    (Finset.le_fold_max _).2 (.inr ⟨j1, Finset.mem_univ _, le_rfl⟩)
  have h01 := h1 j0 (Finset.mem_univ _)
  rw [le_antisymm hle hge]
  by_cases hk : keep j1
  · exact ⟨s j1, by unfold filled; rw [if_pos hk]⟩
  · exfalso
    unfold filled at h01
    rw [if_pos h0, if_neg hk] at h01
    exact absurd (le_bot_iff.1 h01) (EReal.coe_ne_bot _)

/-- The reference's exponential of a filled score less a real number. -/
theorem exp_filled (r : ℝ) (j : ι) : Ideal.exp (filled s keep j - (r : EReal)) = ((kept s keep j * Real.exp (-r) : ℝ) : EReal) := by
  unfold filled kept
  split
  · rw [← EReal.coe_sub, ← Real.exp_add]; rfl
  · rw [zero_mul, EReal.bot_sub]; rfl

/-- The reference's row is the kernel's row. -/
theorem softmax_row (j0 : ι) (h0 : keep j0) (v : ι → EReal) :
    (∑ j, v j * Ideal.div (Ideal.exp (filled s keep j - Finset.univ.fold max ⊥ (filled s keep)))
        (∑ j, Ideal.exp (filled s keep j - Finset.univ.fold max ⊥ (filled s keep))))
      = Ideal.div (∑ j, (kept s keep j : EReal) * v j) (∑ j, (kept s keep j : EReal)) := by
  obtain ⟨r, hr⟩ := top_real s keep j0 h0
  have hA := kept_sum_pos s keep j0 h0
  rw [hr]
  simp only [exp_filled]
  rw [← coe_sum_real, ← coe_sum_real, ← Finset.sum_mul, div_real _ _ hA.ne', sum_mul_real _ _ _ (inv_nonneg.2 hA.le)]
  refine Finset.sum_congr rfl fun j _ => ?_
  rw [div_real _ _ (mul_pos hA (Real.exp_pos _)).ne', ← EReal.coe_mul, mul_comm ((kept s keep j : ℝ) : EReal) (v j), mul_assoc (v j), ← EReal.coe_mul]
  congr 2
  have he := (Real.exp_pos (-r)).ne'
  field_simp

end row

end Cert.KernelProof
-- ==== Proof.Attention.lean ====
/-
# What both programs compute

The attention of one query row over real scores, in the form the two programs are brought to.
-/
module

public import proofs.«01_k».proof.Proof.Softmax
public import proofs.«01_k».proof.Proof.Words

@[expose] public section

noncomputable section

namespace Cert.KernelProof

open Idealize.ShloMosaic

/-- Column `d` of head `h`. -/
def col (h : Fin 16) (d : Fin 64) : Fin 1024 := ⟨h.val * 64 + d.val, by omega⟩

/-- The head of a column. -/
def headOf (n : Fin 1024) : Fin 16 := ⟨n.val / 64, by omega⟩

/-- The score of query row `i` and key row `j` in batch `b` and head `h`. -/
def score (X : Fin 2 → Fin 256 → Fin 512 → ℝ) (W : Fin 512 → Fin 1024 → ℝ) (K : Fin 2 → Fin 1024 → Fin 1024 → ℝ)
    (b : Fin 2) (h : Fin 16) (i : Fin 256) (j : Fin 1024) : ℝ :=
  (∑ d : Fin 64, (∑ e : Fin 512, X b i e * W e (col h d)) * K b j (col h d)) * (1 / 8)

/-- The exponential of row `i`'s score against key row `j`, zero where masked. -/
def weight (s : Fin 1024 → ℝ) (i : Fin 256) (j : Fin 1024) : ℝ := kept s (fun j => Keep i.val j.val) j

/-- The values `v` averaged by row `i`'s weights. -/
def attend (s : Fin 1024 → ℝ) (i : Fin 256) (v : Fin 1024 → EReal) : EReal :=
  Ideal.div (∑ j, (weight s i j : EReal) * v j) (∑ j, (weight s i j : EReal))

/-- The inner products, scaled after or before the product with the keys. -/
theorem score_after (X : Fin 2 → Fin 256 → Fin 512 → ℝ) (W : Fin 512 → Fin 1024 → ℝ) (K : Fin 2 → Fin 1024 → Fin 1024 → ℝ)
    (b : Fin 2) (h : Fin 16) (i : Fin 256) (j : Fin 1024) :
    (∑ d : Fin 64, (∑ e : Fin 512, (X b i e : EReal) * (W e (col h d) : EReal)) * (K b j (col h d) : EReal)) * ((1 / 8 : ℝ) : EReal)
      = (score X W K b h i j : EReal) := by
  unfold score
  simp only [EReal.coe_mul, coe_sum_real]

theorem score_before (X : Fin 2 → Fin 256 → Fin 512 → ℝ) (W : Fin 512 → Fin 1024 → ℝ) (K : Fin 2 → Fin 1024 → Fin 1024 → ℝ)
    (b : Fin 2) (h : Fin 16) (i : Fin 256) (j : Fin 1024) :
    (∑ d : Fin 64, ((∑ e : Fin 512, (X b i e : EReal) * (W e (col h d) : EReal)) * ((1 / 8 : ℝ) : EReal)) * (K b j (col h d) : EReal))
      = (score X W K b h i j : EReal) := by
  rw [← score_after, sum_mul_real _ _ _ (by norm_num)]
  exact Finset.sum_congr rfl fun d _ => mul_right_comm _ _ _

/-- A sum over 1024 in four blocks of 256. -/
theorem sum_blocks (f : Fin 1024 → EReal) :
    ∑ n, f n = ∑ c : Fin 4, ∑ x : Fin 256, f ⟨256 * c.val + x.val, by omega⟩ := by
  rw [← Fintype.sum_prod_type' (fun (c : Fin 4) (x : Fin 256) => f ⟨256 * c.val + x.val, by omega⟩)]
  refine (Fintype.sum_equiv (finProdFinEquiv (m := 4) (n := 256)) _ _ fun p => ?_).symm
  congr 1
  apply Fin.ext
  show 256 * p.1.val + p.2.val = p.2.val + 256 * p.1.val
  omega

end Cert.KernelProof
-- ==== Proof.Algebraic.lean ====
/-
# The kernel's result is the reference's

Each device's partial product, and the sum of the four, over blocks of whole arrays.
-/
module

public import proofs.«01_k».proof.Proof.KernelValue
public import proofs.«01_k».proof.Proof.Attention

@[expose] public section

set_option maxRecDepth 16384

noncomputable section

namespace Cert.KernelProof

open Cert.KernelIdeal Cert.KernelIdeal.Gen
open Idealize.ShloMosaic
open Idealize.SL Idealize.SL.Sem

/-- Entry `r` of block `c` of 1024 in four blocks. -/
def globCol (c : Fin 4) (r : Fin 256) : Fin 1024 := ⟨256 * c.val + r.val, by omega⟩

/-- The four slots are the four devices, in the order the heads add them, -/
theorem sum_slots (f : Fin 4 → EReal) (c : Dev nD) :
    f (origin c 0) + f (origin c 1) + f (origin c 3) + f (origin c 2) = ∑ o, f o := by
  rw [Fin.sum_univ_four]
  have h : ∀ c : Dev nD, [origin c 0, origin c 1, origin c 3, origin c 2] = [0, 3, 1, 2] ∨ [origin c 0, origin c 1, origin c 3, origin c 2] = [1, 0, 2, 3]
      ∨ [origin c 0, origin c 1, origin c 3, origin c 2] = [2, 1, 3, 0] ∨ [origin c 0, origin c 1, origin c 3, origin c 2] = [3, 2, 0, 1] := by decide
  rcases h c with h | h | h | h <;> simp only [List.cons.injEq, and_true] at h <;> obtain ⟨h0, h1, h3, h2⟩ := h <;> rw [h0, h1, h2, h3] <;> ac_rfl

/-- and in the order the partial products are added. -/
theorem sum_slots' (f : Fin 4 → EReal) (c : Dev nD) :
    f (origin c 0) + f (origin c 1) + f (origin c 2) + f (origin c 3) = ∑ o, f o := by
  rw [← sum_slots f c]
  exact add_right_comm _ _ _

variable (m : (ℓ : Loc nD τ sig) → Buf (Elt Ideal) ℓ)

theorem wqA_eq (c : Dev nD) : wqA m c = m ((c.tc : Thread nD τ).loc main_arg1) := by
  unfold wqA
  exact Memref.read_access_unit_zero (Elt Ideal) main_arg1 (funext fun a => by fin_cases a <;> decide) (fun a => by fin_cases a <;> decide) _

theorem kA_eq (c : Dev nD) : kA m c = m ((c.tc : Thread nD τ).loc main_arg2) := by
  unfold kA
  exact Memref.read_access_unit_zero (Elt Ideal) main_arg2 (funext fun a => by fin_cases a <;> decide) (fun a => by fin_cases a <;> decide) _

theorem vA_eq (c : Dev nD) : vA m c = m ((c.tc : Thread nD τ).loc main_arg3) := by
  unfold vA
  exact Memref.read_access_unit_zero (Elt Ideal) main_arg3 (funext fun a => by fin_cases a <;> decide) (fun a => by fin_cases a <;> decide) _

theorem woA_eq (c : Dev nD) : woA m c = m ((c.tc : Thread nD τ).loc main_arg4) := by
  unfold woA
  exact Memref.read_access_unit_zero (Elt Ideal) main_arg4 (funext fun a => by fin_cases a <;> decide) (fun a => by fin_cases a <;> decide) _

/-- The keys of a slot, and its values, where their device holds them. -/
theorem slab_keys (c : Dev nD) (d : Fin 4) (b : Fin 2) (r n : Fin 256) :
    slab m c d 0 b (ix2 r n) = kA m (origin c d) (ix3 b r (globCol c n)) := by
  rw [slab_apply]
  show kA m (origin c d) (srcIdx (atSlot c (ix5 d 0 b r n))) = _
  congr 1
  funext a
  fin_cases a <;> rfl

theorem slab_values (c : Dev nD) (d : Fin 4) (b : Fin 2) (r n : Fin 256) :
    slab m c d 1 b (ix2 r n) = vA m (origin c d) (ix3 b r (globCol c n)) := by
  rw [slab_apply]
  show vA m (origin c d) (srcIdx (atSlot c (ix5 d 1 b r n))) = _
  congr 1
  funext a
  fin_cases a <;> rfl

/-- The devices hold the blocks of whole arrays, the queries, their weights and the keys finite. -/
structure Holds (X : Fin 2 → Fin 256 → Fin 512 → ℝ) (W : Fin 512 → Fin 1024 → ℝ) (K : Fin 2 → Fin 1024 → Fin 1024 → ℝ)
    (V : Fin 2 → Fin 1024 → Fin 1024 → EReal) (O : Fin 1024 → Fin 512 → EReal) : Prop where
  x : ∀ c b i e, (xA m c (ix3 b i e) : EReal) = (X b i e : EReal)
  wq : ∀ c e n, (wqA m c (ix2 e n) : EReal) = (W e (globCol c n) : EReal)
  k : ∀ c b r n, (kA m c (ix3 b r n) : EReal) = (K b (globCol c r) n : EReal)
  v : ∀ c b r n, (vA m c (ix3 b r n) : EReal) = V b (globCol c r) n
  wo : ∀ c r n, (woA m c (ix2 r n) : EReal) = O (globCol c r) n

section held

variable {m}
variable {X : Fin 2 → Fin 256 → Fin 512 → ℝ} {W : Fin 512 → Fin 1024 → ℝ} {K : Fin 2 → Fin 1024 → Fin 1024 → ℝ}
  {V : Fin 2 → Fin 1024 → Fin 1024 → EReal} {O : Fin 1024 → Fin 512 → EReal} (H : Holds m X W K V O)

include H

/-- One slot's masked exponentials are the weights of the keys its device holds. -/
theorem wts_value (c : Dev nD) (d : Fin 4) (b : Fin 2) (h : Fin 4) (i j : Fin 256) (g : Fin 16) (hg : g.val = 4 * c.val + h.val) :
    (wts (qv (xA m c) (wqA m c) b) (slab m c d 0 b) (maskv (BitVec.ofNat 32 (origin c d).val)) h (ix2 i j) : EReal)
      = (weight (score X W K b g i) i (globCol (origin c d) j) : EReal) := by
  rw [wts_apply, maskv_apply]
  have hc : ∀ e : Fin 64, globCol c ⟨64 * h.val + e.val, by omega⟩ = col g e := fun e =>
    Fin.ext (show 256 * c.val + (64 * h.val + e.val) = g.val * 64 + e.val by omega)
  simp only [qv_apply, slab_keys, H.x, H.wq, H.k, hc, eighth]
  rw [score_before]
  exact exp_mask (score X W K b g i) (fun j => Keep i.val j.val) (globCol (origin c d) j)

/-- One head's result is the attention of its columns. -/
theorem head_value (c : Dev nD) (b : Fin 2) (h : Fin 4) (i : Fin 256) (e : Fin 64) (a : Fin 1024)
    (ha : a.val = 256 * c.val + 64 * h.val + e.val) :
    (headOut (qv (xA m c) (wqA m c) b) (fun d => slab m c d 0 b) (fun d => slab m c d 1 b)
        (fun d => maskv (BitVec.ofNat 32 (origin c d).val)) h (ix2 i e) : EReal)
      = attend (score X W K b (headOf a) i) i (fun j => V b j a) := by
  have hg : (headOf a).val = 4 * c.val + h.val := by
    show a.val / 64 = _
    omega
  have hc : globCol c ⟨64 * h.val + e.val, by omega⟩ = a := Fin.ext (show 256 * c.val + (64 * h.val + e.val) = a.val by omega)
  rw [headOut_apply]
  simp only [ctx1_apply, den1_apply, wts_value H _ _ _ _ _ _ _ hg, slab_values, H.v, hc]
  unfold attend
  rw [sum_blocks, sum_blocks]
  congr 1
  · exact sum_slots (fun o => ∑ j : Fin 256, (weight (score X W K b (headOf a) i) i (globCol o j) : EReal) * V b (globCol o j) a) c
  · exact sum_slots (fun o => ∑ j : Fin 256, (weight (score X W K b (headOf a) i) i (globCol o j) : EReal)) c

/-- One device's partial product. -/
theorem part_value (c : Dev nD) (b : Fin 2) (i : Fin 256) (n : Fin 512) :
    (partV m c (ix3 b i n) : EReal)
      = ∑ r : Fin 256, attend (score X W K b (headOf (globCol c r)) i) i (fun j => V b j (globCol c r)) * O (globCol c r) n := by
  unfold partV
  rw [partOf_apply, batchOut_apply]
  refine Finset.sum_congr rfl fun r _ => ?_
  rw [H.wo]
  congr 1
  exact head_value H c b _ i _ _ (show 256 * c.val + r.val = 256 * c.val + 64 * (r.val / 64) + r.val % 64 by omega)

/-- The result, on every device. -/
theorem out_value (c : Dev nD) (b : Fin 2) (i : Fin 256) (n : Fin 512) :
    (outV m c (ix3 b i n) : EReal)
      = ∑ a : Fin 1024, attend (score X W K b (headOf a) i) i (fun j => V b j a) * O a n := by
  have h : (outV m c (ix3 b i n) : EReal)
      = partV m (origin c 0) (ix3 b i n) + partV m (origin c 1) (ix3 b i n) + partV m (origin c 2) (ix3 b i n) + partV m (origin c 3) (ix3 b i n) := rfl
  rw [h, sum_blocks]
  simp only [part_value H]
  exact sum_slots' (fun o => ∑ r : Fin 256, attend (score X W K b (headOf (globCol o r)) i) i (fun j => V b j (globCol o r)) * O (globCol o r) n) c

end held

end Cert.KernelProof
-- ==== Proof.ReferenceValue.lean ====
/-
# The reference's value, entry by entry

The reference's result in named steps, each read at an index over the extended reals.
-/
module

public import proofs.«01_k».proof.Proof.Gen.ReferenceIdeal
public import proofs.«01_k».proof.Proof.Gen.ReferenceIdeal.Run
public import proofs.«01_k».proof.Proof.Attention
public import Idealize.ShloMosaic.Lib.Routing.OpsOrder
public import Idealize.ShloMosaic.Lib.Pointwise

@[expose] public section

set_option maxRecDepth 16384

noncomputable section

namespace Cert.ReferenceProof

open Cert.ReferenceIdeal Cert.ReferenceIdeal.Gen
open Idealize.ShloMosaic
open Idealize.SL Idealize.SL.Sem
open Cert.KernelProof

/-- Which key rows each query row attends. -/
def mask : IVec S256x1024 1 :=
  ori (cmpi .sle (absi (subi (broadcastInDim S256x1024 ![0, 1] bcast_S256x1_S256x1024_0_1 (broadcastInDim S256x1 ![0] bcast_S256_S256x1_0 (iotaInDim S256 32 0))) (broadcastInDim S256x1024 ![0, 1] bcast_S1x1024_S256x1024_0_1 (broadcastInDim S1x1024 ![1] bcast_S1024_S1x1024_1 (iotaInDim S1024 32 0))))) (broadcastInDim S256x1024 ![] bcast_S_S256x1024 (constantI S_ 32 128#32)))
    (ori (broadcastInDim S256x1024 ![0, 1] bcast_S1x1024_S256x1024_0_1 (cmpi .slt (broadcastInDim S1x1024 ![1] bcast_S1024_S1x1024_1 (iotaInDim S1024 32 0)) (broadcastInDim S1x1024 ![] bcast_S_S1x1024 (constantI S_ 32 32#32)))) (broadcastInDim S256x1024 ![0, 1] bcast_S256x1_S256x1024_0_1 (cmpi .slt (broadcastInDim S256x1 ![0] bcast_S256_S256x1_0 (iotaInDim S256 32 0)) (broadcastInDim S256x1 ![] bcast_S_S256x1 (constantI S_ 32 32#32)))))

/-- Whether a query row attends any key row. -/
def anyKept : IVec S256 1 := Host.reduce IntOp.ori mask (constantI S_ 1 0#1) reducesTo_S256x1024_S256_d1 h_S_

section values

variable (x : FVec Ideal S2x256x512 .bf16) (wq : FVec Ideal S512x1024 .bf16) (k v : FVec Ideal S2x1024x1024 .bf16) (wo : FVec Ideal S1024x512 .bf16)

/-- The scores, the masked ones at minus infinity. -/
def scores : FVec Ideal S2x16x256x1024 .f32 :=
  select (broadcastInDim S2x16x256x1024 ![0, 1, 2, 3] bcast_S1x1x256x1024_S2x16x256x1024_0_1_2_3 (broadcastInDim S1x1x256x1024 ![2, 3] bcast_S256x1024_S1x1x256x1024_2_3 mask))
    (mulf (extf .f32 (truncf .bf16 (Host.dotGeneral dot_S2x256x16x64_S2x1024x16x64_S2x16x256x1024_3_3_1_1_02_02 none (shapeCast _ (truncf .bf16 (Host.dotGeneral dot_S2x256x512_S512x1024_S2x256x1024_2_0_01_1_n_n none x wq) bitsLt_bf16_f32) shapeCasts_S2x256x1024_S2x256x16x64) (shapeCast _ k shapeCasts_S2x1024x1024_S2x1024x16x64)) bitsLt_bf16_f32) bitsLt_bf16_f32)
      (broadcastInDim S2x16x256x1024 ![] bcast_S_S2x16x256x1024 (constant S_ .f32 0x3E000000#32)))
    (broadcastInDim S2x16x256x1024 ![] bcast_S_S2x16x256x1024 (id (constant S_ .f32 0xFF800000#32)))

/-- The exponentials of the scores less the row's greatest. -/
def expo (s : FVec Ideal S2x16x256x1024 .f32) : FVec Ideal S2x16x256x1024 .f32 :=
  Host.exp (subf s (broadcastInDim S2x16x256x1024 ![0, 1, 2, 3] bcast_S2x16x256x1_S2x16x256x1024_0_1_2_3 (broadcastInDim S2x16x256x1 ![0, 1, 2] bcast_S2x16x256_S2x16x256x1_0_1_2 (Host.reduce FloatOps.maximumf s (constant S_ .f32 0xFF800000#32) reducesTo_S2x16x256x1024_S2x16x256_d3 h_S_))))

/-- The weights: the exponentials over their row sums. -/
def weights (e : FVec Ideal S2x16x256x1024 .f32) : FVec Ideal S2x16x256x1024 .f32 :=
  select (broadcastInDim S2x16x256x1024 ![0, 1, 2, 3] bcast_S1x1x256x1_S2x16x256x1024_0_1_2_3 (broadcastInDim S1x1x256x1 ![2] bcast_S256_S1x1x256x1_2 anyKept))
    (Host.divf e (broadcastInDim S2x16x256x1024 ![0, 1, 2, 3] bcast_S2x16x256x1_S2x16x256x1024_0_1_2_3
      (select (broadcastInDim S2x16x256x1 ![0, 1, 2, 3] bcast_S1x1x256x1_S2x16x256x1_0_1_2_3 (broadcastInDim S1x1x256x1 ![2] bcast_S256_S1x1x256x1_2 anyKept))
        (broadcastInDim S2x16x256x1 ![0, 1, 2] bcast_S2x16x256_S2x16x256x1_0_1_2 (Host.reduceAdd e (constant S_ .f32 0x00000000#32) reducesTo_S2x16x256x1024_S2x16x256_d3 h_S_))
        (broadcastInDim S2x16x256x1 ![] bcast_S_S2x16x256x1 (id (constant S_ .f32 0x3F800000#32))))))
    (broadcastInDim S2x16x256x1024 ![] bcast_S_S2x16x256x1024 (id (constant S_ .f32 0x00000000#32)))

/-- The attended values, the heads side by side. -/
def attended (w : FVec Ideal S2x16x256x1024 .f32) : FVec Ideal S2x256x1024 .f32 :=
  shapeCast _ (transpose S2x256x16x64 [0, 3, 1, 2] (Host.dotGeneral dot_S2x1024x16x64_S2x16x256x1024_S2x16x64x256_1_3_3_2_02_01 none (extf .f32 (shapeCast _ v shapeCasts_S2x1024x1024_S2x1024x16x64) bitsLt_bf16_f32) w) transposes_S2x16x64x256_S2x256x16x64_0_3_1_2) shapeCasts_S2x256x16x64_S2x256x1024

/-- The result. -/
def result : FVec Ideal S2x256x512 .f32 :=
  Host.dotGeneral dot_S2x256x1024_S1024x512_S2x256x512_2_0_01_1_n_n none (attended v (weights (expo (scores x wq k)))) (extf .f32 wo bitsLt_bf16_f32)

end values

theorem res_eq (m : (ℓ : Loc nD τ sig) → Buf (Elt Ideal) ℓ) (c : Dev nD) :
    Cert.ReferenceIdeal.Value.res_out0 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem mask_apply (i : Fin 256) (j : Fin 1024) : mask (ix2 i j) = BitVec.ofBool (decide (Keep i.val j.val)) := by
  pointwise [mask]
  obtain ⟨h1, h2, h3⟩ := keep_words i.val j.val (by omega) (by omega)
  rw [h1, h2, h3, WordCmp.ori_ofBool, WordCmp.ori_ofBool, Bool.decide_or, Bool.decide_or]

/-- Every query row attends key row 0. -/
theorem anyKept_apply (i : Fin 256) : anyKept (ix1 i) = 1#1 := by
  pointwise [anyKept]
  refine (Routing.fold_ori _ _).2 ⟨0, Finset.mem_univ _, ?_⟩
  rw [mask_apply, decide_eq_true (.inr (.inl (by decide)))]
  rfl

theorem scores_apply (x : FVec Ideal S2x256x512 .bf16) (wq : FVec Ideal S512x1024 .bf16) (k : FVec Ideal S2x1024x1024 .bf16)
    (b : Fin 2) (h : Fin 16) (i : Fin 256) (j : Fin 1024) :
    (scores x wq k (ix4 b h i j) : EReal)
      = if Keep i.val j.val then (∑ d : Fin 64, (∑ e : Fin 512, x (ix3 b i e) * wq (ix2 e (col h d))) * k (ix3 b j (col h d))) * Ideal.ofBits .f32 0x3E000000#32
        else ⊥ := by
  pointwise [scores]
  rw [mask_apply]
  by_cases hk : Keep i.val j.val
  · rw [if_pos hk, decide_eq_true hk]
    rfl
  · rw [if_neg hk, decide_eq_false hk, ← neg_inf]
    rfl

theorem expo_apply (s : FVec Ideal S2x16x256x1024 .f32) (b : Fin 2) (h : Fin 16) (i : Fin 256) (j : Fin 1024) :
    expo s (ix4 b h i j)
      = Ideal.exp (s (ix4 b h i j) - Finset.univ.fold max (Ideal.ofBits .f32 0xFF800000#32) (fun j => s (ix4 b h i j))) := by
  pointwise [expo]

theorem weights_apply (e : FVec Ideal S2x16x256x1024 .f32) (b : Fin 2) (h : Fin 16) (i : Fin 256) (j : Fin 1024) :
    weights e (ix4 b h i j) = Ideal.div (e (ix4 b h i j)) (∑ j, e (ix4 b h i j)) := by
  pointwise [weights]
  rw [anyKept_apply]
  rfl

theorem attended_apply (v : FVec Ideal S2x1024x1024 .bf16) (w : FVec Ideal S2x16x256x1024 .f32) (b : Fin 2) (i : Fin 256) (n : Fin 1024) :
    attended v w (ix3 b i n) = ∑ j : Fin 1024, v (ix3 b j n) * w (ix4 b (headOf n) i j) := by
  pointwise [attended]
  rfl

theorem result_apply (x : FVec Ideal S2x256x512 .bf16) (wq : FVec Ideal S512x1024 .bf16) (k v : FVec Ideal S2x1024x1024 .bf16) (wo : FVec Ideal S1024x512 .bf16)
    (b : Fin 2) (i : Fin 256) (n : Fin 512) :
    result x wq k v wo (ix3 b i n) = ∑ a : Fin 1024, attended v (weights (expo (scores x wq k))) (ix3 b i a) * wo (ix2 a n) := by
  pointwise [result]

/-- The reference over finite queries and keys. -/
theorem result_value (x : FVec Ideal S2x256x512 .bf16) (wq : FVec Ideal S512x1024 .bf16) (k v : FVec Ideal S2x1024x1024 .bf16) (wo : FVec Ideal S1024x512 .bf16)
    (X : Fin 2 → Fin 256 → Fin 512 → ℝ) (W : Fin 512 → Fin 1024 → ℝ) (K : Fin 2 → Fin 1024 → Fin 1024 → ℝ)
    (hx : ∀ b i e, (x (ix3 b i e) : EReal) = (X b i e : EReal)) (hw : ∀ e n, (wq (ix2 e n) : EReal) = (W e n : EReal))
    (hk : ∀ b j n, (k (ix3 b j n) : EReal) = (K b j n : EReal)) (b : Fin 2) (i : Fin 256) (n : Fin 512) :
    (result x wq k v wo (ix3 b i n) : EReal)
      = ∑ a : Fin 1024, attend (score X W K b (headOf a) i) i (fun j => v (ix3 b j a)) * wo (ix2 a n) := by
  have hs : ∀ h j, (scores x wq k (ix4 b h i j) : EReal) = filled (score X W K b h i) (fun j => Keep i.val j.val) j := by
    intro h j
    rw [scores_apply, eighth]
    simp only [hx, hw, hk]
    rw [score_after]
    rfl
  rw [result_apply]
  refine Finset.sum_congr rfl fun a _ => ?_
  congr 1
  rw [attended_apply]
  refine Eq.trans (Finset.sum_congr rfl fun j _ => ?_)
    (softmax_row (score X W K b (headOf a) i) (fun j => Keep i.val j.val) 0 (.inr (.inl (by decide))) (fun j => v (ix3 b j a)))
  rw [weights_apply]
  simp only [expo_apply, hs, neg_inf]

end Cert.ReferenceProof
-- ==== Proof.Finite.lean ====
/-
# The finite inputs

The precondition read at an entry, and the blocks of the whole arrays the devices hold.
-/
module

public import proofs.«01_k».proof.Defs
public import proofs.«01_k».proof.Proof.Algebraic
public import proofs.«01_k».proof.Proof.ReferenceValue
public import proofs.«01_k».proof.Proof.Gen.Pre_scores_finite_KernelIdeal
public import Idealize.ShloMosaic.Lib.LayoutAt

@[expose] public section

set_option maxRecDepth 16384

noncomputable section

namespace Cert.KernelProof

open Cert.KernelIdeal Cert.KernelIdeal.Gen
open Idealize.ShloMosaic
open Idealize.SL Idealize.SL.Sem

/-- An extended real whose absolute value lies below plus infinity is a real number. -/
theorem real_of_lt (a : EReal) (h : BitVec.ofBool (decide (max a (-a) < Ideal.ofBits .f32 0x7F800000#32)) = 1#1) : ∃ r : ℝ, a = (r : EReal) := by
  have hlt : max a (-a) < ⊤ := by
    rw [← pos_inf]
    by_contra hn
    rw [decide_eq_false hn] at h
    exact absurd h (by decide)
  induction a using EReal.rec with
  | bot => exact absurd hlt (by simp)
  | coe r => exact ⟨r, rfl⟩
  | top => exact absurd hlt (by simp)

section pre

variable {x : FVec Ideal S2x256x512 .bf16} {wq : FVec Ideal S512x256 .bf16} {k v : FVec Ideal S2x256x1024 .bf16} {wo : FVec Ideal S256x512 .bf16}

theorem pre_x (h : (Cert.Pre_scores_finite_KernelIdeal.fn x wq k v wo).1 = fun _ => 1#1) (b : Fin 2) (i : Fin 256) (e : Fin 512) :
    ∃ r : ℝ, (x (ix3 b i e) : EReal) = (r : EReal) := by
  have h1 := congrFun h (ix3 b i e)
  pointwise [Cert.Pre_scores_finite_KernelIdeal.fn] at h1
  exact real_of_lt _ h1

theorem pre_wq (h : (Cert.Pre_scores_finite_KernelIdeal.fn x wq k v wo).2.1 = fun _ => 1#1) (e : Fin 512) (n : Fin 256) :
    ∃ r : ℝ, (wq (ix2 e n) : EReal) = (r : EReal) := by
  have h1 := congrFun h (ix2 e n)
  pointwise [Cert.Pre_scores_finite_KernelIdeal.fn] at h1
  exact real_of_lt _ h1

theorem pre_k (h : (Cert.Pre_scores_finite_KernelIdeal.fn x wq k v wo).2.2 = fun _ => 1#1) (b : Fin 2) (r : Fin 256) (n : Fin 1024) :
    ∃ t : ℝ, (k (ix3 b r n) : EReal) = (t : EReal) := by
  have h1 := congrFun h (ix3 b r n)
  pointwise [Cert.Pre_scores_finite_KernelIdeal.fn] at h1
  exact real_of_lt _ h1

end pre

/-! ## The blocks -/

theorem globCol_surj (n : Fin 1024) : ∃ c r, globCol c r = n :=
  ⟨⟨n.val / 256, by omega⟩, ⟨n.val % 256, by omega⟩, Fin.ext (show 256 * (n.val / 256) + n.val % 256 = n.val by omega)⟩

theorem block_wq (c : Fin 4) (f : (⟨2, ![512, 1024]⟩ : Shape).Idx → EReal) (h : Layout.Tiles ⟨2, ![512, 256]⟩ ⟨2, ![512, 1024]⟩ 1 4) (e : Fin 512) (n : Fin 256) :
    Layout.block ⟨2, ![512, 256]⟩ ⟨2, ![512, 1024]⟩ 1 4 c f h (ix2 e n) = f (ix2 e (globCol c n)) := by
  rw [Layout.block_apply]
  congr 1
  funext a
  apply Fin.ext
  fin_cases a
  · exact h.idx_val_of_ne c _ 0 (by decide)
  · exact (h.idx_val_self c _ 1 rfl).trans (by show c.val * 256 + n.val = 256 * c.val + n.val; omega)

theorem block_kv (c : Fin 4) (f : (⟨3, ![2, 1024, 1024]⟩ : Shape).Idx → EReal) (h : Layout.Tiles ⟨3, ![2, 256, 1024]⟩ ⟨3, ![2, 1024, 1024]⟩ 1 4)
    (b : Fin 2) (r : Fin 256) (n : Fin 1024) :
    Layout.block ⟨3, ![2, 256, 1024]⟩ ⟨3, ![2, 1024, 1024]⟩ 1 4 c f h (ix3 b r n) = f (ix3 b (globCol c r) n) := by
  rw [Layout.block_apply]
  congr 1
  funext a
  apply Fin.ext
  fin_cases a
  · exact h.idx_val_of_ne c _ 0 (by decide)
  · exact (h.idx_val_self c _ 1 rfl).trans (by show c.val * 256 + r.val = 256 * c.val + r.val; omega)
  · exact h.idx_val_of_ne c _ 2 (by decide)

theorem block_wo (c : Fin 4) (f : (⟨2, ![1024, 512]⟩ : Shape).Idx → EReal) (h : Layout.Tiles ⟨2, ![256, 512]⟩ ⟨2, ![1024, 512]⟩ 0 4) (r : Fin 256) (n : Fin 512) :
    Layout.block ⟨2, ![256, 512]⟩ ⟨2, ![1024, 512]⟩ 0 4 c f h (ix2 r n) = f (ix2 (globCol c r) n) := by
  rw [Layout.block_apply]
  congr 1
  funext a
  apply Fin.ext
  fin_cases a
  · exact (h.idx_val_self c _ 0 rfl).trans (by show c.val * 256 + r.val = 256 * c.val + r.val; omega)
  · exact h.idx_val_of_ne c _ 1 (by decide)

/-- The result on every device is the reference's, as soon as the queries, their weights and the keys are finite. -/
theorem out_eq (m : (ℓ : Loc nD τ sig) → Buf (Elt Ideal) ℓ) (hm : Cert.Pre_KernelIdeal_scores_finite_KernelIdeal m)
    (x : FVec Ideal S2x256x512 .bf16) (wq : FVec Ideal ⟨2, ![512, 1024]⟩ .bf16) (k v : FVec Ideal ⟨3, ![2, 1024, 1024]⟩ .bf16) (wo : FVec Ideal ⟨2, ![1024, 512]⟩ .bf16)
    (hb : ∀ c : Dev nD, m ((c.tc : Thread nD τ).loc main_arg0) = x
      ∧ m ((c.tc : Thread nD τ).loc main_arg1) = Layout.block ⟨2, ![512, 256]⟩ ⟨2, ![512, 1024]⟩ 1 4 c wq
      ∧ m ((c.tc : Thread nD τ).loc main_arg2) = Layout.block ⟨3, ![2, 256, 1024]⟩ ⟨3, ![2, 1024, 1024]⟩ 1 4 c k
      ∧ m ((c.tc : Thread nD τ).loc main_arg3) = Layout.block ⟨3, ![2, 256, 1024]⟩ ⟨3, ![2, 1024, 1024]⟩ 1 4 c v
      ∧ m ((c.tc : Thread nD τ).loc main_arg4) = Layout.block ⟨2, ![256, 512]⟩ ⟨2, ![1024, 512]⟩ 0 4 c wo) (c : Dev nD) :
    outV m c = Cert.ReferenceProof.result x wq k v wo := by
  have hx : ∀ b i e, ∃ r : ℝ, (x (ix3 b i e) : EReal) = (r : EReal) := fun b i e => by
    rw [← (hb 0).1]
    exact pre_x (hm 0).1 b i e
  have hw : ∀ e n, ∃ r : ℝ, (wq (ix2 e n) : EReal) = (r : EReal) := fun e n => by
    obtain ⟨c, r, rfl⟩ := globCol_surj n
    rw [← block_wq c wq (by decide), ← (hb c).2.1]
    exact pre_wq (hm c).2.1 e r
  have hk : ∀ b j n, ∃ r : ℝ, (k (ix3 b j n) : EReal) = (r : EReal) := fun b j n => by
    obtain ⟨c, r, rfl⟩ := globCol_surj j
    rw [← block_kv c k (by decide), ← (hb c).2.2.1]
    exact pre_k (hm c).2.2 b r n
  choose X hX using hx
  choose W hW using hw
  choose K hK using hk
  have H : Holds m X W K (fun b j n => v (ix3 b j n)) (fun j n => wo (ix2 j n)) :=
    { x := fun c b i e => by rw [xA_eq, (hb c).1, hX]
      wq := fun c e n => by rw [wqA_eq, (hb c).2.1, ← hW]; exact block_wq c wq _ e n
      k := fun c b r n => by rw [kA_eq, (hb c).2.2.1, ← hK]; exact block_kv c k _ b r n
      v := fun c b r n => by rw [vA_eq, (hb c).2.2.2.1]; exact block_kv c v _ b r n
      wo := fun c r n => by rw [woA_eq, (hb c).2.2.2.2]; exact block_wo c wo _ r n }
  funext i
  rw [show i = ix3 (i 0) (i 1) (i 2) from by funext a; fin_cases a <;> rfl]
  exact (out_value H c (i 0) (i 1) (i 2)).trans (Cert.ReferenceProof.result_value x wq k v wo X W K hX hW hK (i 0) (i 1) (i 2)).symm

end Cert.KernelProof
-- ==== Proof.lean ====
/-
# The claims

The kernel's run is proved once over any float values (`Cert.KernelProof.run_values`); its two frames are read off it, the
reference's frame off the reference's own run, and the equality of the two results joins the two runs.
-/
module

public import proofs.«01_k».proof.Defs
public import proofs.«01_k».proof.Proof.Launch
public import proofs.«01_k».proof.Proof.Finite
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_scores_finite_KernelIdeal
public import proofs.«01_k».proof.Proof.Gen.Pre_scores_finite_ReferenceIdeal
public import Idealize.ShloMosaic.Adequacy
public import Idealize.ShloMosaic.Init

@[expose] public section

noncomputable section

namespace Cert.Proof

open Idealize.ShloMosaic Idealize.SL.Sem

variable {F : FTy → Type} [FloatOps F]

set_option maxRecDepth 8192

/-! ## The kernel and its idealization are one program

No rule was offered, so the two printed modules have the same text: their body tables and their `main` are equal. -/

theorem body_same : Cert.Kernel.cc0_body (F := F) = Cert.KernelIdeal.cc0_body (F := F) := rfl

theorem defs0_same : (Cert.Kernel.defs₀ (F := F)) = Cert.KernelIdeal.defs₀ := by
  unfold Cert.Kernel.defs₀ Cert.KernelIdeal.defs₀
  rw [body_same]
  congr 1
  funext a b
  fin_cases a
  obtain ⟨t, s⟩ := b
  rfl

theorem defs_same : (Cert.Kernel.defs (F := F)) = Cert.KernelIdeal.defs := by
  unfold Cert.Kernel.defs Cert.KernelIdeal.defs
  rw [defs0_same]
  rfl
theorem main_same : (Cert.Kernel.main (F := F)) = Cert.KernelIdeal.main := rfl

/-- The kernel's frame: its run is the idealization's run, at the bit-exact values. -/
theorem frame_kernel : Cert.quiescent_Kernel := fun m ρ _ => by
  rw [defs_same, main_same]
  exact (θ_run Cert.KernelIdeal.defs _ _).mono (fun _ h => ⟨fun c => (h.1 c).2, h.2⟩) (Cert.KernelProof.run_values (F := Bits) m ρ)
theorem frame_kernelIdeal : Cert.quiescent_KernelIdeal := fun m ρ _ =>
  (θ_run Cert.KernelIdeal.defs _ _).mono (fun _ h => ⟨fun c => (h.1 c).2, h.2⟩) (Cert.KernelProof.run_values (F := Ideal) m ρ)

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Both programs run, and on finite queries, query weights and keys every device's result is the reference's. -/
theorem algebraic : Cert.algebraic_KernelIdeal_ReferenceIdeal_pre_scores_finite_KernelIdeal := fun m ρ m' ρ' hm hb =>
  ⟨Cert.ReferenceIdeal.Value.res_out0 m' 0,
    (θ_run Cert.KernelIdeal.defs _ _).mono
      (fun _ h c => ⟨(h.1 c).1.trans ((Cert.KernelProof.out_eq m hm _ _ _ _ _ hb c).trans (Cert.ReferenceProof.res_eq m' 0).symm), (h.1 c).2⟩)
      (Cert.KernelProof.run_values (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  Cert.Pre_scores_finite_KernelIdeal.Gen.facts, Cert.Pre_scores_finite_ReferenceIdeal.Gen.facts,
  frame_kernel, frame_kernelIdeal, fun m ρ _ => frame_kernelIdeal m ρ trivial,
  frame_reference, fun m ρ _ => frame_reference m ρ trivial, trivial, algebraic⟩

end Cert.Proof

end
